-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "score_scale_log2e" .f32 0x3E0293EE#32 (((Real.sqrt 128)⁻¹ * (Real.log 2)⁻¹ : ℝ) : EReal)

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S3x512x40x64 : Shape := ⟨4, ![3, 512, 40, 64]⟩
abbrev S3x16x40 : Shape := ⟨3, ![3, 16, 40]⟩
abbrev S3x4x40x128 : Shape := ⟨4, ![3, 4, 40, 128]⟩
abbrev S3x256x8x128 : Shape := ⟨4, ![3, 256, 8, 128]⟩
abbrev S3x16x8 : Shape := ⟨3, ![3, 16, 8]⟩
abbrev S3x512x8x128 : Shape := ⟨4, ![3, 512, 8, 128]⟩
abbrev S3x8x128 : Shape := ⟨3, ![3, 8, 128]⟩
abbrev S_ : Shape := ⟨0, ![]⟩

class Facts : Prop where
  bcast_S_S3x16x40 : S_.BroadcastsInDim S3x16x40 (![] : Fin 0 → Fin S3x16x40.rank)
  reducesTo_S3x16x40_S_d0_1_2 : S3x16x40.ReducesTo [0, 1, 2] S_
  h_S_ : 0 < S_.numel
  bcast_S_S3x16x8 : S_.BroadcastsInDim S3x16x8 (![] : Fin 0 → Fin S3x16x8.rank)
  reducesTo_S3x16x8_S_d0_1_2 : S3x16x8.ReducesTo [0, 1, 2] S_

variable [Facts]

def fn {F : FTy → Type} [FloatOps F] (main_arg0 : IVec S3x512x40x64 8) (main_arg1 : FVec F S3x16x40 .f32) (main_arg2 : FVec F S3x4x40x128 .bf16) (main_arg3 : IVec S3x256x8x128 8) (main_arg4 : FVec F S3x16x8 .f32) (main_arg5 : FVec F S3x512x8x128 .fp8e4m3) (main_arg6 : FVec F S3x8x128 .f32) : IVec S_ 1 :=
  let main_cst : FVec F S_ .f32 := constant S_ .f32 0xFF800000#32
  let main_v0 : FVec F S3x16x40 .f32 := broadcastInDim S3x16x40 ![] bcast_S_S3x16x40 main_cst
  let main_v1 : IVec S3x16x40 1 := cmpf .ogt main_arg1 main_v0
  let main_cst_0 : FVec F S_ .f32 := constant S_ .f32 0x7F800000#32
  let main_v2 : FVec F S3x16x40 .f32 := broadcastInDim S3x16x40 ![] bcast_S_S3x16x40 main_cst_0
  let main_v3 : IVec S3x16x40 1 := cmpf .olt main_arg1 main_v2
  let main_v4 : IVec S3x16x40 1 := andi main_v1 main_v3
  let main_c : IVec S_ 1 := constantI S_ 1 1#1
  let main_v5 : IVec S_ 1 := (fun x v => Host.reduce IntOp.andi x v reducesTo_S3x16x40_S_d0_1_2 h_S_) main_v4 main_c
  let main_cst_1 : FVec F S_ .f32 := constant S_ .f32 0xFF800000#32
  let main_v6 : FVec F S3x16x8 .f32 := broadcastInDim S3x16x8 ![] bcast_S_S3x16x8 main_cst_1
  let main_v7 : IVec S3x16x8 1 := cmpf .ogt main_arg4 main_v6
  let main_cst_2 : FVec F S_ .f32 := constant S_ .f32 0x7F800000#32
  let main_v8 : FVec F S3x16x8 .f32 := broadcastInDim S3x16x8 ![] bcast_S_S3x16x8 main_cst_2
  let main_v9 : IVec S3x16x8 1 := cmpf .olt main_arg4 main_v8
  let main_v10 : IVec S3x16x8 1 := andi main_v7 main_v9
  let main_c_3 : IVec S_ 1 := constantI S_ 1 1#1
  let main_v11 : IVec S_ 1 := (fun x v => Host.reduce IntOp.andi x v reducesTo_S3x16x8_S_d0_1_2 h_S_) main_v10 main_c_3
  let main_v12 : IVec S_ 1 := andi main_v5 main_v11
  main_v12
-- ==== Kernel.lean ====
abbrev S3x512x40x64 : Shape := ⟨4, ![3, 512, 40, 64]⟩
abbrev S3x16x40 : Shape := ⟨3, ![3, 16, 40]⟩
abbrev S3x4x40x128 : Shape := ⟨4, ![3, 4, 40, 128]⟩
abbrev S3x256x8x128 : Shape := ⟨4, ![3, 256, 8, 128]⟩
abbrev S3x16x8 : Shape := ⟨3, ![3, 16, 8]⟩
abbrev S3x512x8x128 : Shape := ⟨4, ![3, 512, 8, 128]⟩
abbrev S3x8x128 : Shape := ⟨3, ![3, 8, 128]⟩
abbrev S3x40x512x64 : Shape := ⟨4, ![3, 40, 512, 64]⟩
abbrev S3x8x256x128 : Shape := ⟨4, ![3, 8, 256, 128]⟩
abbrev S3x4x64x2x8x128 : Shape := ⟨6, ![3, 4, 64, 2, 8, 128]⟩
abbrev S3x8x4x2x64x128 : Shape := ⟨6, ![3, 8, 4, 2, 64, 128]⟩
abbrev S3x8x512x128 : Shape := ⟨4, ![3, 8, 512, 128]⟩
abbrev S3x4x8x5x128 : Shape := ⟨5, ![3, 4, 8, 5, 128]⟩
abbrev S3x8x5x4x128 : Shape := ⟨5, ![3, 8, 5, 4, 128]⟩
abbrev S3x8x20x128 : Shape := ⟨4, ![3, 8, 20, 128]⟩
abbrev S3x16x8x5 : Shape := ⟨4, ![3, 16, 8, 5]⟩
abbrev S3x8x5x16 : Shape := ⟨4, ![3, 8, 5, 16]⟩
abbrev S24x1x80 : Shape := ⟨3, ![24, 1, 80]⟩
abbrev S3x16x32x8 : Shape := ⟨4, ![3, 16, 32, 8]⟩
abbrev S3x512x8 : Shape := ⟨3, ![3, 512, 8]⟩
abbrev S3x8x512 : Shape := ⟨3, ![3, 8, 512]⟩
abbrev S3x8x4x64x2 : Shape := ⟨5, ![3, 8, 4, 64, 2]⟩
abbrev S3x8x4x2x64 : Shape := ⟨5, ![3, 8, 4, 2, 64]⟩
abbrev S3x8x1x512 : Shape := ⟨4, ![3, 8, 1, 512]⟩
abbrev S3x8x1x128 : Shape := ⟨4, ![3, 8, 1, 128]⟩
abbrev S3x512x5120 : Shape := ⟨3, ![3, 512, 5120]⟩
abbrev S1x1x80 : Shape := ⟨3, ![1, 1, 80]⟩
abbrev S1x5x512x64 : Shape := ⟨4, ![1, 5, 512, 64]⟩
abbrev S1x1x20x128 : Shape := ⟨4, ![1, 1, 20, 128]⟩
abbrev S1x1x256x128 : Shape := ⟨4, ![1, 1, 256, 128]⟩
abbrev S1x1x1x512 : Shape := ⟨4, ![1, 1, 1, 512]⟩
abbrev S1x1x512x128 : Shape := ⟨4, ![1, 1, 512, 128]⟩
abbrev S1x1x1x128 : Shape := ⟨4, ![1, 1, 1, 128]⟩
abbrev S1x512x640 : Shape := ⟨3, ![1, 512, 640]⟩
abbrev S256x128 : Shape := ⟨2, ![256, 128]⟩
abbrev S64x128 : Shape := ⟨2, ![64, 128]⟩
abbrev S512x128 : Shape := ⟨2, ![512, 128]⟩
abbrev S128x128 : Shape := ⟨2, ![128, 128]⟩
abbrev S128x512 : Shape := ⟨2, ![128, 512]⟩
abbrev S20x128 : Shape := ⟨2, ![20, 128]⟩
abbrev S20x512 : Shape := ⟨2, ![20, 512]⟩
abbrev S1x512 : Shape := ⟨2, ![1, 512]⟩
abbrev S1x128 : Shape := ⟨2, ![1, 128]⟩
abbrev S32x128 : Shape := ⟨2, ![32, 128]⟩
abbrev S1x1x512x64 : Shape := ⟨4, ![1, 1, 512, 64]⟩
abbrev S512x64 : Shape := ⟨2, ![512, 64]⟩
abbrev S1x1x1 : Shape := ⟨3, ![1, 1, 1]⟩
abbrev S32 : Shape := ⟨1, ![32]⟩
abbrev S32x1 : Shape := ⟨2, ![32, 1]⟩
abbrev S1x1x128x128 : Shape := ⟨4, ![1, 1, 128, 128]⟩
abbrev S1x128x128 : Shape := ⟨3, ![1, 128, 128]⟩
abbrev S128x256 : Shape := ⟨2, ![128, 256]⟩
abbrev S1x256 : Shape := ⟨2, ![1, 256]⟩
abbrev S32x256 : Shape := ⟨2, ![32, 256]⟩
abbrev S128x384 : Shape := ⟨2, ![128, 384]⟩
abbrev S1x384 : Shape := ⟨2, ![1, 384]⟩
abbrev S32x384 : Shape := ⟨2, ![32, 384]⟩
abbrev S1x1x384x128 : Shape := ⟨4, ![1, 1, 384, 128]⟩
abbrev S384x128 : Shape := ⟨2, ![384, 128]⟩
abbrev S32x512 : Shape := ⟨2, ![32, 512]⟩

abbrev nBuf : Space → Nat
  | .hbm => 26
  | .vmem => 14
  | .smem => 2
  | _ => 0

abbrev bufTy : (tb : Table) → Fin (tcTables nBuf tb) → BufTy
  | .hbm, ⟨0, _⟩ => ⟨S3x512x40x64, .i8⟩
  | .hbm, ⟨1, _⟩ => ⟨S3x16x40, .f32⟩
  | .hbm, ⟨2, _⟩ => ⟨S3x4x40x128, .bf16⟩
  | .hbm, ⟨3, _⟩ => ⟨S3x256x8x128, .i8⟩
  | .hbm, ⟨4, _⟩ => ⟨S3x16x8, .f32⟩
  | .hbm, ⟨5, _⟩ => ⟨S3x512x8x128, .fp8e4m3⟩
  | .hbm, ⟨6, _⟩ => ⟨S3x8x128, .f32⟩
  | .hbm, ⟨7, _⟩ => ⟨S3x40x512x64, .i8⟩
  | .hbm, ⟨8, _⟩ => ⟨S3x8x256x128, .i8⟩
  | .hbm, ⟨9, _⟩ => ⟨S3x4x64x2x8x128, .fp8e4m3⟩
  | .hbm, ⟨10, _⟩ => ⟨S3x8x4x2x64x128, .fp8e4m3⟩
  | .hbm, ⟨11, _⟩ => ⟨S3x8x512x128, .fp8e4m3⟩
  | .hbm, ⟨12, _⟩ => ⟨S3x4x8x5x128, .bf16⟩
  | .hbm, ⟨13, _⟩ => ⟨S3x8x5x4x128, .bf16⟩
  | .hbm, ⟨14, _⟩ => ⟨S3x8x20x128, .bf16⟩
  | .hbm, ⟨15, _⟩ => ⟨S3x16x8x5, .f32⟩
  | .hbm, ⟨16, _⟩ => ⟨S3x8x5x16, .f32⟩
  | .hbm, ⟨17, _⟩ => ⟨S24x1x80, .f32⟩
  | .hbm, ⟨18, _⟩ => ⟨S3x16x32x8, .f32⟩
  | .hbm, ⟨19, _⟩ => ⟨S3x512x8, .f32⟩
  | .hbm, ⟨20, _⟩ => ⟨S3x8x512, .f32⟩
  | .hbm, ⟨21, _⟩ => ⟨S3x8x4x64x2, .f32⟩
  | .hbm, ⟨22, _⟩ => ⟨S3x8x4x2x64, .f32⟩
  | .hbm, ⟨23, _⟩ => ⟨S3x8x1x512, .f32⟩
  | .hbm, ⟨24, _⟩ => ⟨S3x8x1x128, .f32⟩
  | .hbm, ⟨25, _⟩ => ⟨S3x512x5120, .bf16⟩
  | .local _ .vmem, ⟨0, _⟩ => ⟨S1x5x512x64, .i8⟩
  | .local _ .vmem, ⟨1, _⟩ => ⟨S1x5x512x64, .i8⟩
  | .local _ .vmem, ⟨2, _⟩ => ⟨S1x1x20x128, .bf16⟩
  | .local _ .vmem, ⟨3, _⟩ => ⟨S1x1x20x128, .bf16⟩
  | .local _ .vmem, ⟨4, _⟩ => ⟨S1x1x256x128, .i8⟩
  | .local _ .vmem, ⟨5, _⟩ => ⟨S1x1x256x128, .i8⟩
  | .local _ .vmem, ⟨6, _⟩ => ⟨S1x1x1x512, .f32⟩
  | .local _ .vmem, ⟨7, _⟩ => ⟨S1x1x1x512, .f32⟩
  | .local _ .vmem, ⟨8, _⟩ => ⟨S1x1x512x128, .fp8e4m3⟩
  | .local _ .vmem, ⟨9, _⟩ => ⟨S1x1x512x128, .fp8e4m3⟩
  | .local _ .vmem, ⟨10, _⟩ => ⟨S1x1x1x128, .f32⟩
  | .local _ .vmem, ⟨11, _⟩ => ⟨S1x1x1x128, .f32⟩
  | .local _ .vmem, ⟨12, _⟩ => ⟨S1x512x640, .bf16⟩
  | .local _ .vmem, ⟨13, _⟩ => ⟨S1x512x640, .bf16⟩
  | .local _ .smem, ⟨0, _⟩ => ⟨S1x1x80, .f32⟩
  | .local _ .smem, ⟨1, _⟩ => ⟨S1x1x80, .f32⟩
  | _, _ => ⟨S3x512x40x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .smem S1x1x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x512x64 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x20x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "score_scale_log2e" => some (((Real.sqrt 128)⁻¹ * (Real.log 2)⁻¹ : ℝ) : EReal)
  | _ => none
-- ==== ReferenceIdeal.lean ====
abbrev S3x512x40x64 : Shape := ⟨4, ![3, 512, 40, 64]⟩
abbrev S3x16x40 : Shape := ⟨3, ![3, 16, 40]⟩
abbrev S3x4x40x128 : Shape := ⟨4, ![3, 4, 40, 128]⟩
abbrev S3x256x8x128 : Shape := ⟨4, ![3, 256, 8, 128]⟩
abbrev S3x16x8 : Shape := ⟨3, ![3, 16, 8]⟩
abbrev S3x512x8x128 : Shape := ⟨4, ![3, 512, 8, 128]⟩
abbrev S3x8x128 : Shape := ⟨3, ![3, 8, 128]⟩
abbrev S_ : Shape := ⟨0, ![]⟩
abbrev S3x512x40x64x1 : Shape := ⟨5, ![3, 512, 40, 64, 1]⟩
abbrev S3x512x40x64x2 : Shape := ⟨5, ![3, 512, 40, 64, 2]⟩
abbrev S3x512x8x5x128 : Shape := ⟨5, ![3, 512, 8, 5, 128]⟩
abbrev S3x256x1x8x128 : Shape := ⟨5, ![3, 256, 1, 8, 128]⟩
abbrev S3x256x2x8x128 : Shape := ⟨5, ![3, 256, 2, 8, 128]⟩
abbrev S3x4x8x5x128 : Shape := ⟨5, ![3, 4, 8, 5, 128]⟩
abbrev S3x8x512x512x5 : Shape := ⟨5, ![3, 8, 512, 512, 5]⟩
abbrev S3x8x5x512x512 : Shape := ⟨5, ![3, 8, 5, 512, 512]⟩
abbrev S3x8x512x4x5 : Shape := ⟨5, ![3, 8, 512, 4, 5]⟩
abbrev S3x8x5x4x512 : Shape := ⟨5, ![3, 8, 5, 4, 512]⟩
abbrev S3x8x5x4x128x512 : Shape := ⟨6, ![3, 8, 5, 4, 128, 512]⟩
abbrev S3x16x8x5 : Shape := ⟨4, ![3, 16, 8, 5]⟩
abbrev S3x8x5x16 : Shape := ⟨4, ![3, 8, 5, 16]⟩
abbrev S3x8x5x16x32 : Shape := ⟨5, ![3, 8, 5, 16, 32]⟩
abbrev S3x8x5x512 : Shape := ⟨4, ![3, 8, 5, 512]⟩
abbrev S3x16x32x8 : Shape := ⟨4, ![3, 16, 32, 8]⟩
abbrev S3x512x8 : Shape := ⟨3, ![3, 512, 8]⟩
abbrev S3x8x512 : Shape := ⟨3, ![3, 8, 512]⟩
abbrev S3x8x1x1x512 : Shape := ⟨5, ![3, 8, 1, 1, 512]⟩
abbrev S3x8x5x512x1 : Shape := ⟨5, ![3, 8, 5, 512, 1]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S3x512x5120 : Shape := ⟨3, ![3, 512, 5120]⟩
abbrev S24x2560x512 : Shape := ⟨3, ![24, 2560, 512]⟩
abbrev S3x8x512x128 : Shape := ⟨4, ![3, 8, 512, 128]⟩
abbrev S24x512x128 : Shape := ⟨3, ![24, 512, 128]⟩
abbrev S24x2560x128 : Shape := ⟨3, ![24, 2560, 128]⟩
abbrev S3x8x5x512x128 : Shape := ⟨5, ![3, 8, 5, 512, 128]⟩
abbrev S3x8x1x1x128 : Shape := ⟨5, ![3, 8, 1, 1, 128]⟩

abbrev nBuf : Space → Nat
  | .hbm => 113
  | .vmem => 4
  | .smem => 0
  | _ => 0

abbrev bufTy : (tb : Table) → Fin (tcTables nBuf tb) → BufTy
  | .hbm, ⟨0, _⟩ => ⟨S3x512x40x64, .i8⟩
  | .hbm, ⟨1, _⟩ => ⟨S3x16x40, .f32⟩
  | .hbm, ⟨2, _⟩ => ⟨S3x4x40x128, .bf16⟩
  | .hbm, ⟨3, _⟩ => ⟨S3x256x8x128, .i8⟩
  | .hbm, ⟨4, _⟩ => ⟨S3x16x8, .f32⟩
  | .hbm, ⟨5, _⟩ => ⟨S3x512x8x128, .fp8e4m3⟩
  | .hbm, ⟨6, _⟩ => ⟨S3x8x128, .f32⟩
  | .hbm, ⟨7, _⟩ => ⟨S3x512x40x64, .i32⟩
  | .hbm, ⟨8, _⟩ => ⟨S_, .i32⟩
  | .hbm, ⟨9, _⟩ => ⟨S3x512x40x64, .i32⟩
  | .hbm, ⟨10, _⟩ => ⟨S3x512x40x64, .i32⟩
  | .hbm, ⟨11, _⟩ => ⟨S_, .i32⟩
  | .hbm, ⟨12, _⟩ => ⟨S3x512x40x64, .i32⟩
  | .hbm, ⟨13, _⟩ => ⟨S3x512x40x64, .i1⟩
  | .hbm, ⟨14, _⟩ => ⟨S_, .i32⟩
  | .hbm, ⟨15, _⟩ => ⟨S3x512x40x64, .i32⟩
  | .hbm, ⟨16, _⟩ => ⟨S3x512x40x64, .i32⟩
  | .hbm, ⟨17, _⟩ => ⟨S3x512x40x64, .i32⟩
  | .hbm, ⟨18, _⟩ => ⟨S3x512x40x64, .bf16⟩
  | .hbm, ⟨19, _⟩ => ⟨S_, .i32⟩
  | .hbm, ⟨20, _⟩ => ⟨S3x512x40x64, .i32⟩
  | .hbm, ⟨21, _⟩ => ⟨S3x512x40x64, .i32⟩
  | .hbm, ⟨22, _⟩ => ⟨S_, .i32⟩
  | .hbm, ⟨23, _⟩ => ⟨S3x512x40x64, .i32⟩
  | .hbm, ⟨24, _⟩ => ⟨S3x512x40x64, .i1⟩
  | .hbm, ⟨25, _⟩ => ⟨S_, .i32⟩
  | .hbm, ⟨26, _⟩ => ⟨S3x512x40x64, .i32⟩
  | .hbm, ⟨27, _⟩ => ⟨S3x512x40x64, .i32⟩
  | .hbm, ⟨28, _⟩ => ⟨S3x512x40x64, .i32⟩
  | .hbm, ⟨29, _⟩ => ⟨S3x512x40x64, .bf16⟩
  | .hbm, ⟨30, _⟩ => ⟨S3x512x40x64x1, .bf16⟩
  | .hbm, ⟨31, _⟩ => ⟨S3x512x40x64x1, .bf16⟩
  | .hbm, ⟨32, _⟩ => ⟨S3x512x40x64x2, .bf16⟩
  | .hbm, ⟨33, _⟩ => ⟨S3x512x8x5x128, .bf16⟩
  | .hbm, ⟨34, _⟩ => ⟨S3x256x8x128, .i32⟩
  | .hbm, ⟨35, _⟩ => ⟨S_, .i32⟩
  | .hbm, ⟨36, _⟩ => ⟨S3x256x8x128, .i32⟩
  | .hbm, ⟨37, _⟩ => ⟨S3x256x8x128, .i32⟩
  | .hbm, ⟨38, _⟩ => ⟨S_, .i32⟩
  | .hbm, ⟨39, _⟩ => ⟨S3x256x8x128, .i32⟩
  | .hbm, ⟨40, _⟩ => ⟨S3x256x8x128, .i1⟩
  | .hbm, ⟨41, _⟩ => ⟨S_, .i32⟩
  | .hbm, ⟨42, _⟩ => ⟨S3x256x8x128, .i32⟩
  | .hbm, ⟨43, _⟩ => ⟨S3x256x8x128, .i32⟩
  | .hbm, ⟨44, _⟩ => ⟨S3x256x8x128, .i32⟩
  | .hbm, ⟨45, _⟩ => ⟨S3x256x8x128, .bf16⟩
  | .hbm, ⟨46, _⟩ => ⟨S_, .i32⟩
  | .hbm, ⟨47, _⟩ => ⟨S3x256x8x128, .i32⟩
  | .hbm, ⟨48, _⟩ => ⟨S3x256x8x128, .i32⟩
  | .hbm, ⟨49, _⟩ => ⟨S_, .i32⟩
  | .hbm, ⟨50, _⟩ => ⟨S3x256x8x128, .i32⟩
  | .hbm, ⟨51, _⟩ => ⟨S3x256x8x128, .i1⟩
  | .hbm, ⟨52, _⟩ => ⟨S_, .i32⟩
  | .hbm, ⟨53, _⟩ => ⟨S3x256x8x128, .i32⟩
  | .hbm, ⟨54, _⟩ => ⟨S3x256x8x128, .i32⟩
  | .hbm, ⟨55, _⟩ => ⟨S3x256x8x128, .i32⟩
  | .hbm, ⟨56, _⟩ => ⟨S3x256x8x128, .bf16⟩
  | .hbm, ⟨57, _⟩ => ⟨S3x256x1x8x128, .bf16⟩
  | .hbm, ⟨58, _⟩ => ⟨S3x256x1x8x128, .bf16⟩
  | .hbm, ⟨59, _⟩ => ⟨S3x256x2x8x128, .bf16⟩
  | .hbm, ⟨60, _⟩ => ⟨S3x512x8x128, .bf16⟩
  | .hbm, ⟨61, _⟩ => ⟨S3x4x8x5x128, .bf16⟩
  | .hbm, ⟨62, _⟩ => ⟨S3x8x512x512x5, .f32⟩
  | .hbm, ⟨63, _⟩ => ⟨S3x8x5x512x512, .f32⟩
  | .hbm, ⟨64, _⟩ => ⟨S3x8x512x4x5, .f32⟩
  | .hbm, ⟨65, _⟩ => ⟨S3x8x5x4x512, .f32⟩
  | .hbm, ⟨66, _⟩ => ⟨S3x8x5x4x128x512, .f32⟩
  | .hbm, ⟨67, _⟩ => ⟨S3x8x5x512x512, .f32⟩
  | .hbm, ⟨68, _⟩ => ⟨S3x16x8x5, .f32⟩
  | .hbm, ⟨69, _⟩ => ⟨S3x8x5x16, .f32⟩
  | .hbm, ⟨70, _⟩ => ⟨S3x8x5x16x32, .f32⟩
  | .hbm, ⟨71, _⟩ => ⟨S3x8x5x512, .f32⟩
  | .hbm, ⟨72, _⟩ => ⟨S_, .f32⟩
  | .hbm, ⟨73, _⟩ => ⟨S_, .f32⟩
  | .hbm, ⟨74, _⟩ => ⟨S3x16x32x8, .f32⟩
  | .hbm, ⟨75, _⟩ => ⟨S3x512x8, .f32⟩
  | .hbm, ⟨76, _⟩ => ⟨S3x8x512, .f32⟩
  | .hbm, ⟨77, _⟩ => ⟨S3x8x512, .f32⟩
  | .hbm, ⟨78, _⟩ => ⟨S3x8x512, .f32⟩
  | .hbm, ⟨79, _⟩ => ⟨S3x8x1x1x512, .f32⟩
  | .hbm, ⟨80, _⟩ => ⟨S3x8x5x512x1, .f32⟩
  | .hbm, ⟨81, _⟩ => ⟨S3x8x5x512x512, .f32⟩
  | .hbm, ⟨82, _⟩ => ⟨S3x8x5x512x512, .f32⟩
  | .hbm, ⟨83, _⟩ => ⟨S3x8x5x512x512, .f32⟩
  | .hbm, ⟨84, _⟩ => ⟨S3x8x5x512x512, .f32⟩
  | .hbm, ⟨85, _⟩ => ⟨S3x8x5x512x512, .f32⟩
  | .hbm, ⟨86, _⟩ => ⟨S512, .i32⟩
  | .hbm, ⟨87, _⟩ => ⟨S1x512, .i32⟩
  | .hbm, ⟨88, _⟩ => ⟨S512, .i32⟩
  | .hbm, ⟨89, _⟩ => ⟨S512x1, .i32⟩
  | .hbm, ⟨90, _⟩ => ⟨S512x512, .i32⟩
  | .hbm, ⟨91, _⟩ => ⟨S512x512, .i32⟩
  | .hbm, ⟨92, _⟩ => ⟨S512x512, .i1⟩
  | .hbm, ⟨93, _⟩ => ⟨S_, .f32⟩
  | .hbm, ⟨94, _⟩ => ⟨S_, .f32⟩
  | .hbm, ⟨95, _⟩ => ⟨S3x8x5x512x512, .i1⟩
  | .hbm, ⟨96, _⟩ => ⟨S3x8x5x512x512, .f32⟩
  | .hbm, ⟨97, _⟩ => ⟨S3x8x5x512x512, .f32⟩
  | .hbm, ⟨98, _⟩ => ⟨S_, .f32⟩
  | .hbm, ⟨99, _⟩ => ⟨S3x8x5x512, .f32⟩
  | .hbm, ⟨100, _⟩ => ⟨S_, .f32⟩
  | .hbm, ⟨101, _⟩ => ⟨S3x8x5x512, .f32⟩
  | .hbm, ⟨102, _⟩ => ⟨S3x8x5x512, .f32⟩
  | .hbm, ⟨103, _⟩ => ⟨S3x8x5x512x1, .f32⟩
  | .hbm, ⟨104, _⟩ => ⟨S3x8x5x512x512, .f32⟩
  | .hbm, ⟨105, _⟩ => ⟨S3x8x5x512x512, .f32⟩
  | .hbm, ⟨106, _⟩ => ⟨S3x8x5x512x512, .f32⟩
  | .hbm, ⟨107, _⟩ => ⟨S_, .f32⟩
  | .hbm, ⟨108, _⟩ => ⟨S3x8x5x512, .f32⟩
  | .hbm, ⟨109, _⟩ => ⟨S3x8x5x512x1, .f32⟩
  | .hbm, ⟨110, _⟩ => ⟨S3x8x5x512x512, .f32⟩
  | .hbm, ⟨111, _⟩ => ⟨S3x8x5x512x512, .f32⟩
  | .hbm, ⟨112, _⟩ => ⟨S3x512x5120, .bf16⟩
  | .local _ .vmem, ⟨0, _⟩ => ⟨S3x8x5x512x512, .f32⟩
  | .local _ .vmem, ⟨1, _⟩ => ⟨S3x512x8x128, .fp8e4m3⟩
  | .local _ .vmem, ⟨2, _⟩ => ⟨S3x8x128, .f32⟩
  | .local _ .vmem, ⟨3, _⟩ => ⟨S3x512x5120, .bf16⟩
  | _, _ => ⟨S3x512x40x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_14 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x8x5x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tile.lean ====
module

public import proofs.«01_k».proof.KernelIdeal

@[expose] public section

set_option maxRecDepth 16384

/-!
# One output tile of the kernel, as a function

The kernel's body writes twenty tiles of 128 query rows by 128 value columns: for each of the five query heads
that share a key/value head, the four tiles of 128 query rows.  The functions here say once what such a tile is,
operation for operation as the body computes it, with the number of keys `L` it attends to as a parameter.
-/

noncomputable section

namespace Cert.Tile

open Idealize.ShloMosaic Cert.KernelIdeal

variable {F : FTy → Type} [FloatOps F]

/-- The shape of `m` rows of `n` entries. -/
abbrev Sh (m n : ℕ) : Shape := ⟨2, ![m, n]⟩

/-- The scores of 32 query rows against `L` keys: the integer products `a` of the rows from `off`, times the keys'
    scales `sc` and the rows' one query scale `qs`, plus the mean-query term `brow`. -/
def scores (L off : ℕ) (ha : (Sh 128 L).Slices ![off, 0] (Sh 32 L)) (hb : (Sh 1 L).Broadcasts (Sh 32 L))
    (a : FVec F (Sh 128 L) .f32) (sc brow : FVec F (Sh 1 L) .f32) (qs : Elt F .f32) : FVec F (Sh 32 L) .f32 :=
  addf (mulf (extractStridedSlice (Sh 32 L) ![off, 0] a ha)
    (broadcastTo (Sh 32 L) (mulf sc (broadcast (Sh 1 L) qs)) hb)) (broadcastTo (Sh 32 L) brow hb)

/-- The causal mask on the last 128 keys: key token `tok` stays where it is at most the row's token, `row` plus
    the row offset `off`; elsewhere the score is minus infinity. -/
def maskLast (tok row : IVec S32x128 32) (off : BitVec 32) (s : FVec F S32x128 .f32) : FVec F S32x128 .f32 :=
  select (cmpi .sle tok (addi row (broadcast S32x128 off))) s
    (broadcast S32x128 (Scalar.ofBits .f32 0xFF800000#32 : F .f32))

/-- The masked scores where `M` keys come before the last 128: only the last 128 columns are masked. -/
def maskTail (L M : ℕ) (hl : (Sh 32 L).Slices ![0, M] S32x128) (hf : (Sh 32 L).Slices ![0, 0] (Sh 32 M))
    (hc : Shape.Concatenates [Sh 32 M, S32x128] (Sh 32 L) 1) (tok row : IVec S32x128 32) (off : BitVec 32)
    (s : FVec F (Sh 32 L) .f32) : FVec F (Sh 32 L) .f32 :=
  concatenate (Sh 32 L) 1 [⟨Sh 32 M, extractStridedSlice (Sh 32 M) ![0, 0] s hf⟩,
    ⟨S32x128, maskLast tok row off (extractStridedSlice S32x128 ![0, M] s hl)⟩] hc

/-- The quantised softmax of 32 rows of masked scores: the base-2 exponential of the score less its row's maximum,
    times 256 over the row's sum of those, limited to 0 … 448, at fp8. -/
def quant (L : ℕ) (hr : (Sh 32 L).Reduces [1] S32) (hs : S32.ShapeCasts S32x1)
    (hb : S32x1.Broadcasts (Sh 32 L)) (ht : FTy.bits .fp8e4m3 < FTy.bits .f32)
    (s : FVec F (Sh 32 L) .f32) : FVec F (Sh 32 L) .fp8e4m3 :=
  have mx : FVec F S32 .f32 := multiReduction .maximumf [1] S32 s 0xFF800000#32 hr (.inl rfl) rfl
  have e := exp2 (subf s (broadcastTo (Sh 32 L) (shapeCast S32x1 mx hs) hb))
  have l : FVec F S32 .f32 := multiReduction .add [1] S32 e 0x00000000#32 hr (.inl rfl) rfl
  have d := divf (broadcast S32x1 (Scalar.ofBits .f32 0x43800000#32 : F .f32)) (shapeCast S32x1 l hs)
  have p := mulf e (broadcastTo (Sh 32 L) d hb)
  truncf .fp8e4m3 (minimumf (broadcast (Sh 32 L) (Scalar.ofBits .f32 0x43E00000#32 : F .f32))
    (maximumf (broadcast (Sh 32 L) (Scalar.ofBits .f32 0x00000000#32 : F .f32)) p)) ht

/-- The tile from the four quantised blocks of 32 rows: they weigh the `L` value rows, and the product is scaled
    column by column and stored at bf16. -/
def weigh (L : ℕ) (d : DotDims (Sh 128 L) (Sh L 128) S128x128)
    (hc : Shape.Concatenates [Sh 32 L, Sh 32 L, Sh 32 L, Sh 32 L] (Sh 128 L) 0)
    (hv : (⟨4, ![1, 1, L, 128]⟩ : Shape).ShapeCasts (Sh L 128)) (hb : S1x128.Broadcasts S128x128)
    (ht : FTy.bits .bf16 < FTy.bits .f32) (ho : S128x128.ShapeCasts S1x128x128)
    (p0 p1 p2 p3 : FVec F (Sh 32 L) .fp8e4m3) (v : Vec F ⟨4, ![1, 1, L, 128]⟩ .fp8e4m3) (vs : FVec F S1x128 .f32) :
    FVec F S1x128x128 .bf16 :=
  shapeCast S1x128x128 (truncf .bf16 (mulf (matmul d none
    (concatenate (Sh 128 L) 0 [⟨Sh 32 L, p0⟩, ⟨Sh 32 L, p1⟩, ⟨Sh 32 L, p2⟩, ⟨Sh 32 L, p3⟩] hc)
    (shapeCast (Sh L 128) v hv) (constant S128x128 .f32 0x00000000#32)) (broadcastTo S128x128 vs hb)) ht) ho

variable [Facts]
open Facts₀ Facts

/-- The kernel's query head from its stored bytes: the low halves of the bytes, then the high halves. -/
def query (x : Vec F S1x1x512x64 .i8) : FVec F S512x128 .bf16 :=
  have w : IVec S512x64 32 := extui 32 (shapeCast S512x64 x shapeCasts_S1x1x512x64_S512x64) natLt_8_32
  have lo := shrsi (shli w (broadcast S512x64 28#32)) (broadcast S512x64 28#32)
  have hi := shrsi (shli w (broadcast S512x64 24#32)) (broadcast S512x64 28#32)
  concatenate S512x128 1 [⟨S512x64, truncf .bf16 (sitofp .f32 lo) bitsLt_bf16_f32⟩,
    ⟨S512x64, truncf .bf16 (sitofp .f32 hi) bitsLt_bf16_f32⟩] concatenates_S512x64_S512x64_S512x128_d1

/-- The tile of query rows 0 … 127, which attends to the first 128 keys. -/
def tile0 (q : FVec F S512x128 .bf16) (kt : FVec F S128x512 .bf16) (sc : FVec F S1x512 .f32)
    (brow : FVec F S1x128 .f32) (tok row : IVec S32x128 32) (qs : Fin 4 → Elt F .f32)
    (v : Vec F S1x1x128x128 .fp8e4m3) (vs : FVec F S1x128 .f32) : FVec F S1x128x128 .bf16 :=
  have a : FVec F S128x128 .f32 := matmul dot_S128x128_S128x128_S128x128_1_0_0_1_n_n none
    (extractStridedSlice S128x128 ![0, 0] q slices_S512x128_o0_0_S128x128)
    (extractStridedSlice S128x128 ![0, 0] kt slices_S128x512_o0_0_S128x128) (constant S128x128 .f32 0x00000000#32)
  have s : FVec F S1x128 .f32 := (extractStridedSlice S1x128 ![0, 0] sc slices_S1x512_o0_0_S1x128)
  have p0 := quant 128 reduces_S32x128_S32 shapeCasts_S32_S32x1 broadcasts_S32x1_S32x128 bitsLt_fp8e4m3_f32
    (maskLast tok row 0#32 (scores 128 0 slices_S128x128_o0_0_S32x128 broadcasts_S1x128_S32x128 a s brow (qs 0)))
  have p1 := quant 128 reduces_S32x128_S32 shapeCasts_S32_S32x1 broadcasts_S32x1_S32x128 bitsLt_fp8e4m3_f32
    (maskLast tok row 32#32 (scores 128 32 slices_S128x128_o32_0_S32x128 broadcasts_S1x128_S32x128 a s brow (qs 1)))
  have p2 := quant 128 reduces_S32x128_S32 shapeCasts_S32_S32x1 broadcasts_S32x1_S32x128 bitsLt_fp8e4m3_f32
    (maskLast tok row 64#32 (scores 128 64 slices_S128x128_o64_0_S32x128 broadcasts_S1x128_S32x128 a s brow (qs 2)))
  have p3 := quant 128 reduces_S32x128_S32 shapeCasts_S32_S32x1 broadcasts_S32x1_S32x128 bitsLt_fp8e4m3_f32
    (maskLast tok row 96#32 (scores 128 96 slices_S128x128_o96_0_S32x128 broadcasts_S1x128_S32x128 a s brow (qs 3)))
  weigh 128 dot_S128x128_S128x128_S128x128_1_0_0_1_n_n concatenates_S32x128_S32x128_S32x128_S32x128_S128x128_d0
    shapeCasts_S1x1x128x128_S128x128 broadcasts_S1x128_S128x128 bitsLt_bf16_f32 shapeCasts_S128x128_S1x128x128
    p0 p1 p2 p3 v vs

/-- The tile of query rows 128 … 255, which attends to the first 256 keys. -/
def tile1 (q : FVec F S512x128 .bf16) (kt : FVec F S128x512 .bf16) (sc : FVec F S1x512 .f32)
    (brow : FVec F S1x256 .f32) (tok row : IVec S32x128 32) (qs : Fin 4 → Elt F .f32)
    (v : Vec F S1x1x256x128 .fp8e4m3) (vs : FVec F S1x128 .f32) : FVec F S1x128x128 .bf16 :=
  have a : FVec F S128x256 .f32 := matmul dot_S128x128_S128x256_S128x256_1_0_0_1_n_n none
    (extractStridedSlice S128x128 ![128, 0] q slices_S512x128_o128_0_S128x128)
    (extractStridedSlice S128x256 ![0, 0] kt slices_S128x512_o0_0_S128x256) (constant S128x256 .f32 0x00000000#32)
  have s : FVec F S1x256 .f32 := (extractStridedSlice S1x256 ![0, 0] sc slices_S1x512_o0_0_S1x256)
  have p0 := quant 256 reduces_S32x256_S32 shapeCasts_S32_S32x1 broadcasts_S32x1_S32x256 bitsLt_fp8e4m3_f32
    (maskTail 256 128 slices_S32x256_o0_128_S32x128 slices_S32x256_o0_0_S32x128
      concatenates_S32x128_S32x128_S32x256_d1 tok row 0#32 (scores 256 0 slices_S128x256_o0_0_S32x256 broadcasts_S1x256_S32x256 a s brow (qs 0)))
  have p1 := quant 256 reduces_S32x256_S32 shapeCasts_S32_S32x1 broadcasts_S32x1_S32x256 bitsLt_fp8e4m3_f32
    (maskTail 256 128 slices_S32x256_o0_128_S32x128 slices_S32x256_o0_0_S32x128
      concatenates_S32x128_S32x128_S32x256_d1 tok row 32#32 (scores 256 32 slices_S128x256_o32_0_S32x256 broadcasts_S1x256_S32x256 a s brow (qs 1)))
  have p2 := quant 256 reduces_S32x256_S32 shapeCasts_S32_S32x1 broadcasts_S32x1_S32x256 bitsLt_fp8e4m3_f32
    (maskTail 256 128 slices_S32x256_o0_128_S32x128 slices_S32x256_o0_0_S32x128
      concatenates_S32x128_S32x128_S32x256_d1 tok row 64#32 (scores 256 64 slices_S128x256_o64_0_S32x256 broadcasts_S1x256_S32x256 a s brow (qs 2)))
  have p3 := quant 256 reduces_S32x256_S32 shapeCasts_S32_S32x1 broadcasts_S32x1_S32x256 bitsLt_fp8e4m3_f32
    (maskTail 256 128 slices_S32x256_o0_128_S32x128 slices_S32x256_o0_0_S32x128
      concatenates_S32x128_S32x128_S32x256_d1 tok row 96#32 (scores 256 96 slices_S128x256_o96_0_S32x256 broadcasts_S1x256_S32x256 a s brow (qs 3)))
  weigh 256 dot_S128x256_S256x128_S128x128_1_0_0_1_n_n concatenates_S32x256_S32x256_S32x256_S32x256_S128x256_d0
    shapeCasts_S1x1x256x128_S256x128 broadcasts_S1x128_S128x128 bitsLt_bf16_f32 shapeCasts_S128x128_S1x128x128
    p0 p1 p2 p3 v vs

/-- The tile of query rows 256 … 383, which attends to the first 384 keys. -/
def tile2 (q : FVec F S512x128 .bf16) (kt : FVec F S128x512 .bf16) (sc : FVec F S1x512 .f32)
    (brow : FVec F S1x384 .f32) (tok row : IVec S32x128 32) (qs : Fin 4 → Elt F .f32)
    (v : Vec F S1x1x384x128 .fp8e4m3) (vs : FVec F S1x128 .f32) : FVec F S1x128x128 .bf16 :=
  have a : FVec F S128x384 .f32 := matmul dot_S128x128_S128x384_S128x384_1_0_0_1_n_n none
    (extractStridedSlice S128x128 ![256, 0] q slices_S512x128_o256_0_S128x128)
    (extractStridedSlice S128x384 ![0, 0] kt slices_S128x512_o0_0_S128x384) (constant S128x384 .f32 0x00000000#32)
  have s : FVec F S1x384 .f32 := (extractStridedSlice S1x384 ![0, 0] sc slices_S1x512_o0_0_S1x384)
  have p0 := quant 384 reduces_S32x384_S32 shapeCasts_S32_S32x1 broadcasts_S32x1_S32x384 bitsLt_fp8e4m3_f32
    (maskTail 384 256 slices_S32x384_o0_256_S32x128 slices_S32x384_o0_0_S32x256
      concatenates_S32x256_S32x128_S32x384_d1 tok row 0#32 (scores 384 0 slices_S128x384_o0_0_S32x384 broadcasts_S1x384_S32x384 a s brow (qs 0)))
  have p1 := quant 384 reduces_S32x384_S32 shapeCasts_S32_S32x1 broadcasts_S32x1_S32x384 bitsLt_fp8e4m3_f32
    (maskTail 384 256 slices_S32x384_o0_256_S32x128 slices_S32x384_o0_0_S32x256
      concatenates_S32x256_S32x128_S32x384_d1 tok row 32#32 (scores 384 32 slices_S128x384_o32_0_S32x384 broadcasts_S1x384_S32x384 a s brow (qs 1)))
  have p2 := quant 384 reduces_S32x384_S32 shapeCasts_S32_S32x1 broadcasts_S32x1_S32x384 bitsLt_fp8e4m3_f32
    (maskTail 384 256 slices_S32x384_o0_256_S32x128 slices_S32x384_o0_0_S32x256
      concatenates_S32x256_S32x128_S32x384_d1 tok row 64#32 (scores 384 64 slices_S128x384_o64_0_S32x384 broadcasts_S1x384_S32x384 a s brow (qs 2)))
  have p3 := quant 384 reduces_S32x384_S32 shapeCasts_S32_S32x1 broadcasts_S32x1_S32x384 bitsLt_fp8e4m3_f32
    (maskTail 384 256 slices_S32x384_o0_256_S32x128 slices_S32x384_o0_0_S32x256
      concatenates_S32x256_S32x128_S32x384_d1 tok row 96#32 (scores 384 96 slices_S128x384_o96_0_S32x384 broadcasts_S1x384_S32x384 a s brow (qs 3)))
  weigh 384 dot_S128x384_S384x128_S128x128_1_0_0_1_n_n concatenates_S32x384_S32x384_S32x384_S32x384_S128x384_d0
    shapeCasts_S1x1x384x128_S384x128 broadcasts_S1x128_S128x128 bitsLt_bf16_f32 shapeCasts_S128x128_S1x128x128
    p0 p1 p2 p3 v vs

/-- The tile of query rows 384 … 511, which attends to the first 512 keys. -/
def tile3 (q : FVec F S512x128 .bf16) (kt : FVec F S128x512 .bf16) (sc : FVec F S1x512 .f32)
    (brow : FVec F S1x512 .f32) (tok row : IVec S32x128 32) (qs : Fin 4 → Elt F .f32)
    (v : Vec F S1x1x512x128 .fp8e4m3) (vs : FVec F S1x128 .f32) : FVec F S1x128x128 .bf16 :=
  have a : FVec F S128x512 .f32 := matmul dot_S128x128_S128x512_S128x512_1_0_0_1_n_n none
    (extractStridedSlice S128x128 ![384, 0] q slices_S512x128_o384_0_S128x128)
    kt (constant S128x512 .f32 0x00000000#32)
  have s : FVec F S1x512 .f32 := sc
  have p0 := quant 512 reduces_S32x512_S32 shapeCasts_S32_S32x1 broadcasts_S32x1_S32x512 bitsLt_fp8e4m3_f32
    (maskTail 512 384 slices_S32x512_o0_384_S32x128 slices_S32x512_o0_0_S32x384
      concatenates_S32x384_S32x128_S32x512_d1 tok row 0#32 (scores 512 0 slices_S128x512_o0_0_S32x512 broadcasts_S1x512_S32x512 a s brow (qs 0)))
  have p1 := quant 512 reduces_S32x512_S32 shapeCasts_S32_S32x1 broadcasts_S32x1_S32x512 bitsLt_fp8e4m3_f32
    (maskTail 512 384 slices_S32x512_o0_384_S32x128 slices_S32x512_o0_0_S32x384
      concatenates_S32x384_S32x128_S32x512_d1 tok row 32#32 (scores 512 32 slices_S128x512_o32_0_S32x512 broadcasts_S1x512_S32x512 a s brow (qs 1)))
  have p2 := quant 512 reduces_S32x512_S32 shapeCasts_S32_S32x1 broadcasts_S32x1_S32x512 bitsLt_fp8e4m3_f32
    (maskTail 512 384 slices_S32x512_o0_384_S32x128 slices_S32x512_o0_0_S32x384
      concatenates_S32x384_S32x128_S32x512_d1 tok row 64#32 (scores 512 64 slices_S128x512_o64_0_S32x512 broadcasts_S1x512_S32x512 a s brow (qs 2)))
  have p3 := quant 512 reduces_S32x512_S32 shapeCasts_S32_S32x1 broadcasts_S32x1_S32x512 bitsLt_fp8e4m3_f32
    (maskTail 512 384 slices_S32x512_o0_384_S32x128 slices_S32x512_o0_0_S32x384
      concatenates_S32x384_S32x128_S32x512_d1 tok row 96#32 (scores 512 96 slices_S128x512_o96_0_S32x512 broadcasts_S1x512_S32x512 a s brow (qs 3)))
  weigh 512 dot_S128x512_S512x128_S128x128_1_0_0_1_n_n concatenates_S32x512_S32x512_S32x512_S32x512_S128x512_d0
    shapeCasts_S1x1x512x128_S512x128 broadcasts_S1x128_S128x128 bitsLt_bf16_f32 shapeCasts_S128x128_S1x128x128
    p0 p1 p2 p3 v vs

end Cert.Tile

end
-- ==== Proof.Row.lean ====
/- One row of quantised attention over the extended reals: the softmax in base 2 over the visible keys, in any order,
   gives the same quantised probabilities as the softmax with the natural exponential over all keys. -/
module

public import Idealize.ShloMosaic.PureOps.Ideal

@[expose] public section

noncomputable section

namespace Cert.Row

open Idealize.ShloMosaic

/-- The factor between the two exponentials: `2 ^ (ell * x) = exp x`. -/
def ell : ℝ := (Real.log 2)⁻¹

/-- The factor is positive. -/
theorem ell_pos : 0 < ell := inv_pos.mpr (Real.log_pos one_lt_two)

/-- Two to the power `ell * x` is the natural exponential of `x`, at the infinities too. -/
theorem exp2_ell (x : EReal) : Ideal.exp2 ((ell : EReal) * x) = Ideal.exp x := by
  induction x with
  | bot => rw [EReal.coe_mul_bot_of_pos ell_pos]; rfl
  | top => rw [EReal.coe_mul_top_of_pos ell_pos]; rfl
  | coe r =>
    rw [← EReal.coe_mul]
    show ((Real.rpow 2 (ell * r) : ℝ) : EReal) = ((Real.exp r : ℝ) : EReal)
    congr 1
    show (2 : ℝ) ^ (ell * r) = _
    rw [Real.rpow_def_of_pos two_pos, ← mul_assoc, ell, mul_inv_cancel₀ (Real.log_pos one_lt_two).ne', one_mul]

/-- The exponential is never negative. -/
theorem exp_nonneg (x : EReal) : 0 ≤ Ideal.exp x := by
  induction x with
  | bot => exact le_refl (0 : EReal)
  | top => exact le_top
  | coe r => exact EReal.coe_nonneg.mpr (Real.exp_pos r).le

/-- A real factor distributes over a sum whose first term is a real. -/
theorem coe_mul_add (r y : ℝ) (M : EReal) : (r : EReal) * ((y : EReal) + M) = r * y + r * M := by
  induction M with
  | coe z => norm_cast; ring
  | top =>
    rw [EReal.coe_add_top]
    rcases lt_trichotomy r 0 with h | h | h
    · rw [EReal.coe_mul_top_of_neg h, EReal.add_bot]
    · subst h; simp
    · rw [EReal.coe_mul_top_of_pos h, ← EReal.coe_mul, EReal.coe_add_top]
  | bot =>
    rw [EReal.add_bot]
    rcases lt_trichotomy r 0 with h | h | h
    · rw [EReal.coe_mul_bot_of_neg h, ← EReal.coe_mul, EReal.coe_add_top]
    · subst h; simp
    · rw [EReal.coe_mul_bot_of_pos h, EReal.add_bot]

/-- The factor distributes over a difference, at the infinities too. -/
theorem ell_mul_sub (x y : EReal) : (ell : EReal) * (x - y) = ell * x - ell * y := by
  rw [sub_eq_add_neg, EReal.left_distrib_of_nonneg_of_ne_top (EReal.coe_nonneg.mpr ell_pos.le) (EReal.coe_ne_top _),
    mul_neg, ← sub_eq_add_neg]

/-- The quantised probability of the key with weight `e` when the weights sum to `l`: normalised, scaled by `c`,
    clipped to `[0, hi]`. -/
def quantR (c hi e l : EReal) : EReal := min hi (max 0 (Ideal.div e l * c))

/-- The same with the scale divided by the sum first. -/
def quantK (c hi e l : EReal) : EReal := min hi (max 0 (e * Ideal.div c l))

/-- The two orders agree: when the sum is zero every weight is zero, and both clip to zero. -/
theorem quantK_eq (c : ℝ) (hc : 0 < c) (hi e l : EReal) (hl : l = 0 → e = 0) : quantK c hi e l = quantR c hi e l := by
  unfold quantK quantR Ideal.div
  by_cases h : l = 0
  · rw [if_pos h, if_pos h, hl h, if_pos (EReal.coe_pos.mpr hc), if_neg (lt_irrefl _), zero_mul, max_self,
      EReal.bot_mul_coe_of_pos hc, max_eq_left bot_le]
  · rw [if_neg h, if_neg h, mul_comm (c : EReal), mul_assoc]

/-- A weight of zero is quantised to zero. -/
theorem quantR_zero (c : ℝ) (hc : 0 < c) (hi l : EReal) (hhi : 0 ≤ hi) : quantR c hi 0 l = 0 := by
  unfold quantR Ideal.div
  by_cases h : l = 0
  · rw [if_pos h, if_neg (lt_irrefl _), EReal.bot_mul_coe_of_pos hc, max_eq_left bot_le, min_eq_right hhi]
  · rw [if_neg h, zero_mul, zero_mul, max_self, min_eq_right hhi]

/-- The softmax weights of a row of scores, not yet normalised. -/
def wR {n : ℕ} (x : Fin n → EReal) (j : Fin n) : EReal := Ideal.exp (x j - Finset.univ.fold max ⊥ x)

/-- The same in base 2. -/
def wK {n : ℕ} (z : Fin n → EReal) (j : Fin n) : EReal := Ideal.exp2 (z j - Finset.univ.fold max ⊥ z)

/-- The reference's row: quantised probabilities weigh the values. -/
def rowR {n : ℕ} (c hi : EReal) (x v : Fin n → EReal) : EReal :=
  ∑ j, quantR c hi (wR x j) (∑ k, wR x k) * v j

/-- The kernel's row. -/
def rowK {n : ℕ} (c hi : EReal) (z v : Fin n → EReal) : EReal :=
  ∑ j, quantK c hi (wK z j) (∑ k, wK z k) * v j

section

variable {L N : ℕ} (f : Fin L → Fin N) (hf : Function.Injective f) (x : Fin N → EReal) (z : Fin L → EReal)
  (hx : ∀ n, (∀ j, f j ≠ n) → x n = ⊥) (hz : ∀ j, z j = (ell : EReal) * x (f j))

include hf in
/-- A sum over `Fin N` of a function that vanishes off the image of `f` is the sum along `f`. -/
theorem sum_along (F : Fin N → EReal) (hF : ∀ n, (∀ j, f j ≠ n) → F n = 0) : ∑ j, F (f j) = ∑ n, F n := by
  classical
  rw [← Finset.sum_image (s := Finset.univ) (g := f) (f := F) (fun a _ b _ h => hf h)]
  refine Finset.sum_subset (Finset.subset_univ _) fun n _ hn => hF n fun j hj => hn ?_
  exact Finset.mem_image.mpr ⟨j, Finset.mem_univ _, hj⟩

include hx hz in
/-- The largest of the kernel's scores is `ell` times the largest of the reference's. -/
theorem sup_along : Finset.univ.fold max ⊥ z = (ell : EReal) * Finset.univ.fold max ⊥ x := by
  have mono : Monotone fun y : EReal => (ell : EReal) * y := fun a b h =>
    mul_le_mul_of_nonneg_left h (EReal.coe_nonneg.mpr ell_pos.le)
  have h1 : Finset.univ.fold max ⊥ x = Finset.univ.sup fun j => x (f j) := by
    show Finset.univ.sup x = _
    refine le_antisymm (Finset.sup_le fun n _ => ?_) (Finset.sup_le fun j _ => Finset.le_sup (f := x) (Finset.mem_univ _))
    by_cases h : ∃ j, f j = n
    · obtain ⟨j, rfl⟩ := h
      exact Finset.le_sup (f := fun j => x (f j)) (Finset.mem_univ j)
    · rw [hx n fun j hj => h ⟨j, hj⟩]; exact bot_le
  rw [h1, Finset.comp_sup_eq_sup_comp (fun y : EReal => (ell : EReal) * y) (fun a b => mono.map_sup a b)
    (EReal.coe_mul_bot_of_pos ell_pos)]
  show Finset.univ.sup z = _
  exact Finset.sup_congr rfl fun j _ => hz j

include hx hz in
/-- The kernel's weight of its key `j` is the reference's weight of key `f j`. -/
theorem wK_along (j : Fin L) : wK z j = wR x (f j) := by
  unfold wK wR
  rw [sup_along f x z hx hz, hz, ← ell_mul_sub, exp2_ell]

include hx in
/-- A key that `f` leaves out has weight zero. -/
theorem wR_off (n : Fin N) (hn : ∀ j, f j ≠ n) : wR x n = 0 := by
  unfold wR
  rw [hx n hn, sub_eq_add_neg, EReal.bot_add]
  rfl

include hf hx hz in
/-- The kernel's row over the keys `f 0, f 1, …` is the reference's row over all keys, when the scores are `ell` times
    the reference's and the reference masks every key that `f` leaves out. -/
theorem rowK_eq_rowR (c : ℝ) (hc : 0 < c) (hi : EReal) (hhi : 0 ≤ hi) (v : Fin N → EReal) :
    rowK c hi z (fun j => v (f j)) = rowR c hi x v := by
  unfold rowK rowR
  have hs : ∑ k, wK z k = ∑ k, wR x k := by
    rw [← sum_along f hf (wR x) (wR_off f x hx)]
    exact Finset.sum_congr rfl fun j _ => wK_along f x z hx hz j
  rw [hs, ← sum_along f hf (fun n => quantR c hi (wR x n) (∑ k, wR x k) * v n) fun n hn => by
    rw [wR_off f x hx n hn, quantR_zero c hc hi _ hhi, zero_mul]]
  refine Finset.sum_congr rfl fun j _ => ?_
  rw [wK_along f x z hx hz, quantK_eq c hc]
  intro h0
  exact (Finset.sum_eq_zero_iff_of_nonneg fun k _ => exp_nonneg _).mp h0 (f j) (Finset.mem_univ _)

end

end Cert.Row

end
-- ==== Proof.TileRead.lean ====
module

public import proofs.«01_k».proof.Proof.Tile
public import proofs.«01_k».proof.Proof.Row
public import Idealize.ShloMosaic.Lib.MatmulPlain
public import Idealize.ShloMosaic.Lib.Pointwise
public import Idealize.ShloMosaic.Lib.Pointwise.IndexVar
public import Idealize.ShloMosaic.Lib.Tactic.WordOmega

@[expose] public section

set_option maxRecDepth 16384

/-!
# The tile functions read at an index, over the extended reals
-/

noncomputable section

namespace Cert.Tile

open Idealize.ShloMosaic Cert.KernelIdeal Cert.Row

/-- The pattern of minus infinity. -/
theorem negInf : Ideal.ofBits .f32 0xFF800000#32 = (⊥ : EReal) := by
  simp [Ideal.ofBits, Ideal.ieee]

/-- The pattern of 256. -/
theorem c256 : Ideal.ofBits .f32 0x43800000#32 = ((256 : ℝ) : EReal) := by
  simp [Ideal.ofBits, Ideal.ieee]
  rw [← EReal.coe_mul]; norm_num

/-- The pattern of 448, fp8's largest value. -/
theorem c448 : Ideal.ofBits .f32 0x43E00000#32 = ((448 : ℝ) : EReal) := by
  simp [Ideal.ofBits, Ideal.ieee]
  rw [← EReal.coe_mul]; norm_num

/-- The scores at row `i`, key `k`. -/
theorem scores_apply (L off : ℕ) (ha hb a sc brow) (qs : Elt Ideal .f32) (i : Fin 32) (k : Fin L) (h : off + i < 128):
    scores (F := Ideal) L off ha hb a sc brow qs (ix2 i k)
      = a (ix2 ⟨off + i, h⟩ k) * (sc (ix2 0 k) * qs) + brow (ix2 0 k) := by
  have hk : (if h : L = 1 then (⟨0, by omega⟩ : Fin L) else k) = k := by
    split
    · exact Fin.ext (by have := k.isLt; simp only; omega)
    · rfl
  pointwise [scores]
  exact congrArg₂ (fun u w => a (ix2 ⟨off + i, h⟩ k) * (sc (ix2 0 u) * qs) + brow (ix2 0 w)) hk hk

/-- The quantised softmax at row `i`, key `k`: the kernel's form of `Row.lean`. -/
theorem quant_apply (L : ℕ) (hr hs hb ht) (s : FVec Ideal (Sh 32 L) .f32) (i : Fin 32) (k : Fin L) :
    quant L hr hs hb ht s (ix2 i k)
      = quantK 256 ((448 : ℝ) : EReal) (wK (fun k => s (ix2 i k)) k) (∑ k', wK (fun k => s (ix2 i k)) k') := by
  pointwise [quant]
  simp only [negInf, c256, c448]
  rfl

/-- The tile at row `i`, column `e`, when the four blocks of 32 rows hold the scores `z`. -/
theorem weigh_quant (L : ℕ) (hwf : DotDims.WF (Sh 128 L) (Sh L 128) S128x128 [1] [0] [0] [1] [] [])
    (hc hv hb ht ho hr hs hb' ht') (s0 s1 s2 s3 : FVec Ideal (Sh 32 L) .f32) (v vs) (z : Fin 128 → Fin L → EReal)
    (h0 : ∀ i k, s0 (ix2 i k) = z ⟨0 + i.val, by omega⟩ k) (h1 : ∀ i k, s1 (ix2 i k) = z ⟨32 + i.val, by omega⟩ k)
    (h2 : ∀ i k, s2 (ix2 i k) = z ⟨64 + i.val, by omega⟩ k) (h3 : ∀ i k, s3 (ix2 i k) = z ⟨96 + i.val, by omega⟩ k)
    (i e : Fin 128) (hvv : ∀ k, shapeCast (Sh L 128) v hv (ix2 k e) = v (ix4 0 0 k e)) :
    weigh L ⟨[1], [0], [0], [1], [], [], hwf⟩ hc hv hb ht ho (quant L hr hs hb' ht' s0) (quant L hr hs hb' ht' s1)
        (quant L hr hs hb' ht' s2) (quant L hr hs hb' ht' s3) v vs (ix3 0 i e)
      = rowK 256 ((448 : ℝ) : EReal) (z i) (fun k => v (ix4 0 0 k e)) * vs (ix2 0 e) := by
  have hm : ∀ (x : FVec Ideal (Sh 128 L) .fp8e4m3) (y : FVec Ideal (Sh L 128) .fp8e4m3),
      Ideal.matmul ⟨[1], [0], [0], [1], [], [], hwf⟩ x y (constant (F := Ideal) S128x128 FTy.f32 0#32) (ix2 i e)
        = ∑ k : Fin L, x (ix2 i k) * y (ix2 k e) := by
    intro x y
    refine (Ideal.matmul_plain_apply none x y _ i e).trans ?_
    exact (congrArg₂ (· + ·) Ideal.ofBits_zero_f32 rfl).trans (zero_add _)
  pointwise [weigh]
  rw [hm]
  unfold rowK
  congr 1
  refine Finset.sum_congr rfl fun k _ => ?_
  rw [hvv]
  refine congrArg (· * v (ix4 0 0 k e)) ?_
  pointwise
  simp only [quant_apply, h0, h1, h2, h3]
  have hz : ∀ (n : Fin 128), n = i → quantK 256 ((448 : ℝ) : EReal) (wK (z n) k) (∑ k', wK (z n) k')
      = quantK 256 ((448 : ℝ) : EReal) (wK (z i) k) (∑ k', wK (z i) k') := by rintro n rfl; rfl
  split_ifs <;> first | exact hz _ (Fin.ext (by simp only; omega)) | exact absurd rfl ‹¬_ = _›

/-- The causal mask on the last 128 keys at row `i`, key `k`. -/
theorem maskLast_apply (tok row : IVec S32x128 32) (r : Fin 4) (s : FVec Ideal S32x128 .f32) (i : Fin 32) (k : Fin 128)
    (T : ℕ) (hT : T < 128) (ht : tok (ix2 i k) = BitVec.ofNat 32 T) (hr : row (ix2 i k) = BitVec.ofNat 32 i.val)  :
    maskLast tok row (BitVec.ofNat 32 (32 * r.val)) s (ix2 i k)
      = if T ≤ 32 * r.val + i.val then s (ix2 i k) else ⊥ := by
  pointwise [maskLast]
  rw [negInf, ht, hr, show IntOp.addi (BitVec.ofNat 32 i.val) (BitVec.ofNat 32 (32 * r.val))
    = BitVec.ofNat 32 (32 * r.val + i.val) by simp [IntOp.addi, BitVec.ofNat_add, BitVec.add_comm]]
  exact if_congr (WordCmp.cmpi_sle_ofNat_eq_one_iff (w := 32) (a := T) (b := 32 * r.val + i.val) (by omega) (by omega)) rfl rfl

/-- The token that the kernel keeps at position `j`: within each 128 keys the even tokens come first, then the odd. -/
def tokenOf (j : ℕ) : ℕ := 128 * (j / 128) + 2 * (j % 64) + j / 64 % 2

/-- The order is the same within every 128 keys. -/
theorem tokenOf_add (n k : ℕ) : tokenOf (128 * n + k) = 128 * n + tokenOf k := by
  have h1 : (128 * n + k) / 128 = n + k / 128 := by omega
  have h2 : (128 * n + k) % 64 = k % 64 := by omega
  have h3 : (128 * n + k) / 64 = 2 * n + k / 64 := by omega
  unfold tokenOf
  rw [h1, h2, h3]
  omega

/-- One block of 32 rows of scores under the mask, where no key comes before the last 128. -/
theorem block_first (tok row : IVec S32x128 32) (htok : ∀ i k, tok (ix2 i k) = BitVec.ofNat 32 (tokenOf k.val))
    (hrow : ∀ i k, row (ix2 i k) = BitVec.ofNat 32 i.val) (r : Fin 4) (ha hb)
    (a : FVec Ideal (Sh 128 128) .f32) (sc brow : FVec Ideal (Sh 1 128) .f32) (qs : Fin 4 → EReal) (i : Fin 32) (k : Fin 128) :
    maskLast tok row (BitVec.ofNat 32 (32 * r.val)) (scores (F := Ideal) 128 (32 * r.val) ha hb a sc brow (qs r)) (ix2 i k)
      = if tokenOf k.val ≤ 32 * r.val + i.val then
          a (ix2 ⟨32 * r.val + i.val, by omega⟩ k) * (sc (ix2 0 k) * qs r) + brow (ix2 0 k) else ⊥ := by
  rw [maskLast_apply tok row r _ i k (tokenOf k.val) (by have := k.isLt; unfold tokenOf; omega) (htok i k) (hrow i k),
    scores_apply 128 (32 * r.val) ha hb a sc brow (qs r) i k (by omega)]

/-- One block of 32 rows of scores under the mask, with `M` keys before the last 128. -/
theorem block_tail (L M : ℕ) (hL : L = M + 128) (hM : M % 128 = 0) (hl hf hc)
    (tok row : IVec S32x128 32) (htok : ∀ i k, tok (ix2 i k) = BitVec.ofNat 32 (tokenOf k.val))
    (hrow : ∀ i k, row (ix2 i k) = BitVec.ofNat 32 i.val) (r : Fin 4) (ha hb)
    (a : FVec Ideal (Sh 128 L) .f32) (sc brow : FVec Ideal (Sh 1 L) .f32) (qs : Fin 4 → EReal) (i : Fin 32) (k : Fin L) :
    maskTail L M hl hf hc tok row (BitVec.ofNat 32 (32 * r.val)) (scores (F := Ideal) L (32 * r.val) ha hb a sc brow (qs r)) (ix2 i k)
      = if tokenOf k.val ≤ M + (32 * r.val + i.val) then
          a (ix2 ⟨32 * r.val + i.val, by omega⟩ k) * (sc (ix2 0 k) * qs r) + brow (ix2 0 k) else ⊥ := by
  rw [← scores_apply L (32 * r.val) ha hb a sc brow (qs r) i k (by omega)]
  generalize scores (F := Ideal) L (32 * r.val) ha hb a sc brow (qs r) = s
  pointwise [maskTail]
  by_cases h1 : k.val < M
  · rw [dif_pos h1, if_pos (show tokenOf k.val ≤ _ by unfold tokenOf; omega)]
  rw [dif_neg h1]
  refine (maskLast_apply tok row r _ i _ (tokenOf (k.val - M)) (by have := k.isLt; unfold tokenOf; omega) (htok i _)
    (hrow i _)).trans ?_
  have hk : tokenOf k.val = M + tokenOf (k.val - M) := by
    conv_lhs => rw [show k.val = 128 * (M / 128) + (k.val - M) by omega, tokenOf_add]
    omega
  refine if_congr (by rw [hk]; omega) ?_ rfl
  pointwise
  exact congrArg (fun u => s (ix2 i u)) (Fin.ext (by simp only; omega))

/-- The score, under the mask, of row `i` of tile `t` against the key at position `k`. -/
def tileScore (t : Fin 4) (L : ℕ) (hL : L ≤ 512) (q : FVec Ideal S512x128 .bf16) (kt : FVec Ideal S128x512 .bf16)
    (sc : FVec Ideal S1x512 .f32) (brow : FVec Ideal (Sh 1 L) .f32) (qs : Fin 4 → EReal) (i : Fin 128) (k : Fin L) : EReal :=
  if tokenOf k.val ≤ 128 * t.val + i.val then
    (∑ c : Fin 128, q (ix2 ⟨128 * t.val + i.val, by omega⟩ c) * kt (ix2 c (Fin.castLE hL k)))
      * (sc (ix2 0 (Fin.castLE hL k)) * qs ⟨i.val / 32, by omega⟩) + brow (ix2 0 k)
  else ⊥

/-- A block's score is the tile's, row by row. -/
theorem tileScore_block (t r : Fin 4) (L : ℕ) (hL : L ≤ 512) (q : FVec Ideal S512x128 .bf16)
    (kt : FVec Ideal S128x512 .bf16) (sc : FVec Ideal S1x512 .f32) (brow : FVec Ideal (Sh 1 L) .f32) (qs : Fin 4 → EReal)
    (i : Fin 32) (k : Fin L) (n : Fin 128) (hn : n.val = 32 * r.val + i.val) :
    tileScore t L hL q kt sc brow qs n k
      = if tokenOf k.val ≤ 128 * t.val + (32 * r.val + i.val) then
          (∑ c : Fin 128, q (ix2 ⟨128 * t.val + n.val, by omega⟩ c) * kt (ix2 c (Fin.castLE hL k)))
            * (sc (ix2 0 (Fin.castLE hL k)) * qs r) + brow (ix2 0 k) else ⊥ := by
  unfold tileScore
  rw [← hn, show (⟨n.val / 32, by omega⟩ : Fin 4) = r from Fin.ext (by simp only; omega)]

end Cert.Tile

end
-- ==== Proof.Precondition.lean ====
module

public import proofs.«01_k».proof.Pre_finite_scales
public import proofs.«01_k».proof.Proof.TileRead
public import Idealize.ShloMosaic.Lib.ReduceAll

@[expose] public section

/-!
# What the precondition says of the scales

The predicate compares every query scale and every key scale with the two infinities; where it is 1, every one of them is
a real number.
-/

noncomputable section

namespace Cert.Finite

open Idealize.ShloMosaic Cert.Pre_finite_scales

/-- The pattern of plus infinity. -/
theorem posInf : Ideal.ofBits .f32 0x7F800000#32 = ⊤ := by
  simp [Ideal.ofBits, Ideal.ieee]

/-- A number above minus infinity and below plus infinity, as two comparisons say it, is a real number. -/
theorem real_of_compare (x : EReal)
    (h : IntOp.andi (Ideal.cmp .ogt x (Ideal.ofBits .f32 0xFF800000#32)) (Ideal.cmp .olt x (Ideal.ofBits .f32 0x7F800000#32)) = 1#1) :
    ∃ r : ℝ, x = (r : EReal) := by
  rw [IntOp.andi_eq_one, Cert.Tile.negInf, posInf] at h
  obtain ⟨h₁, h₂⟩ := h
  induction x with
  | bot => simp [Ideal.cmp] at h₁
  | top => simp [Ideal.cmp] at h₂
  | coe r => exact ⟨r, rfl⟩

variable [Facts] (q : IVec S3x512x40x64 8) (qs : FVec Ideal S3x16x40 .f32) (qm : FVec Ideal S3x4x40x128 .bf16)
  (k : IVec S3x256x8x128 8) (ks : FVec Ideal S3x16x8 .f32) (v : FVec Ideal S3x512x8x128 .fp8e4m3) (vs : FVec Ideal S3x8x128 .f32)

/-- Under the precondition every query scale and every key scale is a real number. -/
theorem scales_real (h : fn (F := Ideal) q qs qm k ks v vs = fun _ => 1#1) :
    (∀ i, ∃ r : ℝ, qs i = (r : EReal)) ∧ ∀ i, ∃ r : ℝ, ks i = (r : EReal) := by
  haveI : Subsingleton S_.Idx := ⟨fun a b => funext fun i => i.elim0⟩
  have e := congrFun h (Shape.Idx.first Facts.h_S_)
  dsimp only [fn] at e
  obtain ⟨e₁, e₂⟩ := (IntOp.andi_eq_one).mp e
  exact ⟨fun i => real_of_compare _ (Host.reduce_andi_all _ _ _ _ _ e₁ i),
    fun i => real_of_compare _ (Host.reduce_andi_all _ _ _ _ _ e₂ i)⟩

end Cert.Finite

end
-- ==== Proof.Pieces.lean ====
module

public import proofs.«01_k».proof.Proof.Gen.KernelIdeal.Frame
public import proofs.«01_k».proof.Proof.Tile

@[expose] public section

set_option maxRecDepth 16384

/-!
# What the kernel's body stores, as twenty tiles

The generated run of the body names the twenty stores it makes into the output block.  Here each of those stores is
identified with one of the tile functions of `Tile.lean`, at the values the body loads.
-/

noncomputable section

namespace Cert.Tile

open Idealize.ShloMosaic Cert.KernelIdeal

variable {F : FTy → Type} [FloatOps F] [Named F]

/-- The place in the output block of the tile of query rows `128 t …` of head `g`. -/
def place (g : Fin 5) (t : Fin 4) : Rect S1x512x640 :=
  Rect.unit ![0, 128 * t.val, 128 * g.val] ![1, 128, 128] (by revert g t; decide)

/-- The place of query scale `n` among the eighty. -/
def scalePlace (n : Fin 80) : Rect S1x1x80 := Rect.unit ![0, 0, n.val] ![1, 1, 1] (by revert n; decide)

/-- One scale is one entry. -/
theorem one_cell : 0 < (⟨3, ![1, 1, 1]⟩ : Shape).numel := by decide

/-- The place of head `g` among the five heads' stored bytes. -/
def headPlace (g : Fin 5) : Rect S1x5x512x64 := Rect.unit ![0, g.val, 0, 0] ![1, 1, 512, 64] (by revert g; decide)

/-- The mean-query term of tile `t` of head `g`, for the first `L` keys. -/
def meanRow (L : ℕ) (g : Fin 5) (t : Fin 4) (h : S20x512.Slices ![4 * g.val + t.val, 0] (Sh 1 L))
    (b : FVec F S20x512 .f32) : FVec F (Sh 1 L) .f32 :=
  extractStridedSlice (Sh 1 L) ![4 * g.val + t.val, 0] b h

/-- The query scale of the 32 rows `r` of tile `t` of head `g`. -/
def rowScale (qs : Fin 80 → Elt F .f32) (g : Fin 5) (t r : Fin 4) : Elt F .f32 :=
  qs ⟨16 * g.val + 4 * t.val + r.val, by omega⟩

/-- The row numbers of a block of 32 query rows. -/
def rowNo [Facts] : IVec S32x128 32 := iota .tc S32x128 32 [0] Facts₀.iota_S32x128_d0_w32

/-- The four tiles of head `g`, last stored first. -/
def headPieces (g : Fin 5) (qs : Fin 80 → Elt F .f32) (xq : Vec F S1x1x512x64 .i8) (xm : Vec F S1x1x20x128 .bf16)
    (xk : Vec F S1x1x256x128 .i8) (xs : Vec F S1x1x1x512 .f32) (v0 : Vec F S1x1x128x128 .fp8e4m3)
    (v1 : Vec F S1x1x256x128 .fp8e4m3) (v2 : Vec F S1x1x384x128 .fp8e4m3) (v3 : Vec F S1x1x512x128 .fp8e4m3)
    (xv : Vec F S1x1x1x128 .f32) : List (View.Piece (Elt F) S1x512x640 .bf16) :=
  [⟨place g 3, tile3 (query xq) (Gen.k0_pay3 xk) (Gen.k0_pay4 xs)
      (meanRow 512 g 3 (by revert g; decide) (Gen.k0_pay5 (Gen.k0_pay2 xk) xm xs)) Gen.k0_pay7 rowNo
      (rowScale qs g 3) v3 (Gen.k0_pay6 xv)⟩,
   ⟨place g 2, tile2 (query xq) (Gen.k0_pay3 xk) (Gen.k0_pay4 xs)
      (meanRow 384 g 2 (by revert g; decide) (Gen.k0_pay5 (Gen.k0_pay2 xk) xm xs)) Gen.k0_pay7 rowNo
      (rowScale qs g 2) v2 (Gen.k0_pay6 xv)⟩,
   ⟨place g 1, tile1 (query xq) (Gen.k0_pay3 xk) (Gen.k0_pay4 xs)
      (meanRow 256 g 1 (by revert g; decide) (Gen.k0_pay5 (Gen.k0_pay2 xk) xm xs)) Gen.k0_pay7 rowNo
      (rowScale qs g 1) v1 (Gen.k0_pay6 xv)⟩,
   ⟨place g 0, tile0 (query xq) (Gen.k0_pay3 xk) (Gen.k0_pay4 xs)
      (meanRow 128 g 0 (by revert g; decide) (Gen.k0_pay5 (Gen.k0_pay2 xk) xm xs)) Gen.k0_pay7 rowNo
      (rowScale qs g 0) v0 (Gen.k0_pay6 xv)⟩]

/-- Five heads' stores, the last head first. -/
def allPieces (qs : Fin 80 → Elt F .f32) (xq : Fin 5 → Vec F S1x1x512x64 .i8) (xm : Vec F S1x1x20x128 .bf16)
    (xk : Vec F S1x1x256x128 .i8) (xs : Vec F S1x1x1x512 .f32) (v0 : Vec F S1x1x128x128 .fp8e4m3)
    (v1 : Vec F S1x1x256x128 .fp8e4m3) (v2 : Vec F S1x1x384x128 .fp8e4m3) (v3 : Vec F S1x1x512x128 .fp8e4m3)
    (xv : Vec F S1x1x1x128 .f32) : List (View.Piece (Elt F) S1x512x640 .bf16) :=
  headPieces 4 qs (xq 4) xm xk xs v0 v1 v2 v3 xv ++ headPieces 3 qs (xq 3) xm xk xs v0 v1 v2 v3 xv
    ++ headPieces 2 qs (xq 2) xm xk xs v0 v1 v2 v3 xv ++ headPieces 1 qs (xq 1) xm xk xs v0 v1 v2 v3 xv
    ++ headPieces 0 qs (xq 0) xm xk xs v0 v1 v2 v3 xv

set_option maxHeartbeats 1000000 in
/-- The stores the body's run makes are these tiles, at what the body loads from its staging buffers. -/
theorem run_pieces (c : Dev nD) (i : grid0.Coords) (arg2 : Memref sig .tc .smem S1x1x80 .f32) (harg2 : arg2.IsWhole) (arg3 : Memref sig .tc .vmem S1x5x512x64 .i8) (harg3 : arg3.IsWhole) (arg4 : Memref sig .tc .vmem S1x1x20x128 .bf16) (harg4 : arg4.IsWhole) (arg5 : Memref sig .tc .vmem S1x1x256x128 .i8) (harg5 : arg5.IsWhole) (arg6 : Memref sig .tc .vmem S1x1x1x512 .f32) (harg6 : arg6.IsWhole) (arg7 : Memref sig .tc .vmem S1x1x512x128 .fp8e4m3) (harg7 : arg7.IsWhole) (arg8 : Memref sig .tc .vmem S1x1x1x128 .f32) (harg8 : arg8.IsWhole) (arg9 : Memref sig .tc .vmem S1x512x640 .bf16) (harg9 : arg9.IsWhole)
    (x0 : Vec F S1x1x80 .f32) (x1 : Vec F S1x5x512x64 .i8) (x2 : Vec F S1x1x20x128 .bf16) (x3 : Vec F S1x1x256x128 .i8) (x4 : Vec F S1x1x1x512 .f32) (x5 : Vec F S1x1x512x128 .fp8e4m3) (x6 : Vec F S1x1x1x128 .f32)  :
    (Gen.kernelRun0_A c i arg2 harg2 arg3 harg3 arg4 harg4 arg5 harg5 arg6 harg6 arg7 harg7 arg8 harg8 arg9 harg9 x0 x1 x2 x3 x4 x5 x6).1
      = allPieces
        (fun n => View.readAt (Elt F) arg2.view (scalePlace n).toLoadRect (harg2.unread x0) (Shape.Idx.first one_cell))
        (fun g => View.readAt (Elt F) arg3.view (headPlace g).toLoadRect (harg3.unread x1))
        (View.readAt (Elt F) arg4.view (Rect.unit (s := S1x1x20x128) ![0, 0, 0, 0] ![1, 1, 20, 128] (by decide)).toLoadRect (harg4.unread x2))
        (View.readAt (Elt F) arg5.view (Rect.unit (s := S1x1x256x128) ![0, 0, 0, 0] ![1, 1, 256, 128] (by decide)).toLoadRect (harg5.unread x3))
        (View.readAt (Elt F) arg6.view (Rect.unit (s := S1x1x1x512) ![0, 0, 0, 0] ![1, 1, 1, 512] (by decide)).toLoadRect (harg6.unread x4))
        (View.readAt (Elt F) arg7.view (Rect.unit (s := S1x1x512x128) ![0, 0, 0, 0] ![1, 1, 128, 128] (by decide)).toLoadRect (harg7.unread x5))
        (View.readAt (Elt F) arg7.view (Rect.unit (s := S1x1x512x128) ![0, 0, 0, 0] ![1, 1, 256, 128] (by decide)).toLoadRect (harg7.unread x5))
        (View.readAt (Elt F) arg7.view (Rect.unit (s := S1x1x512x128) ![0, 0, 0, 0] ![1, 1, 384, 128] (by decide)).toLoadRect (harg7.unread x5))
        (View.readAt (Elt F) arg7.view (Rect.unit (s := S1x1x512x128) ![0, 0, 0, 0] ![1, 1, 512, 128] (by decide)).toLoadRect (harg7.unread x5))
        (View.readAt (Elt F) arg8.view (Rect.unit (s := S1x1x1x128) ![0, 0, 0, 0] ![1, 1, 1, 128] (by decide)).toLoadRect (harg8.unread x6)) := by
  unfold Gen.kernelRun0_A
  rfl

end Cert.Tile

end
-- ==== Proof.TileScore.lean ====
module

public import proofs.«01_k».proof.Proof.TileRead
public import Idealize.ShloMosaic.Lib.MatmulPlain
public import Idealize.ShloMosaic.Lib.Pointwise
public import Idealize.ShloMosaic.Lib.Pointwise.IndexVar
public import Idealize.ShloMosaic.Lib.Tactic.WordOmega

@[expose] public section

set_option maxRecDepth 16384

/-!
# Each of the four tiles, read at an index
-/

noncomputable section

namespace Cert.Tile

open Idealize.ShloMosaic Cert.KernelIdeal Cert.Row

variable [Facts]

/-- Tile 0 at row `i`, column `e`. -/
theorem tile0_apply (q : FVec Ideal S512x128 .bf16) (kt : FVec Ideal S128x512 .bf16) (sc : FVec Ideal S1x512 .f32)
    (brow : FVec Ideal (Sh 1 128) .f32) (tok row : IVec S32x128 32)
    (htok : ∀ i k, tok (ix2 i k) = BitVec.ofNat 32 (tokenOf k.val)) (hrow : ∀ i k, row (ix2 i k) = BitVec.ofNat 32 i.val)
    (qs : Fin 4 → EReal) (v : Vec Ideal S1x1x128x128 .fp8e4m3) (vs : FVec Ideal S1x128 .f32) (i e : Fin 128) :
    tile0 (F := Ideal) q kt sc brow tok row qs v vs (ix3 0 i e)
      = rowK 256 ((448 : ℝ) : EReal) (tileScore 0 128 (by decide) q kt sc brow qs i) (fun k => v (ix4 0 0 k e))
        * vs (ix2 0 e) := by
  refine weigh_quant 128 _ _ _ _ _ _ _ _ _ _ _ _ _ _ v vs (tileScore 0 128 (by decide) q kt sc brow qs) ?_ ?_ ?_ ?_ i e
    (fun k => by pointwise) <;> intro i k
  · refine (block_first tok row htok hrow 0 _ _ _ _ brow qs i k).trans ?_
    rw [tileScore_block 0 0 128 _ q kt sc brow qs i k _ rfl]
    pointwise
    rfl
  · refine (block_first tok row htok hrow 1 _ _ _ _ brow qs i k).trans ?_
    rw [tileScore_block 0 1 128 _ q kt sc brow qs i k _ rfl]
    pointwise
    rfl
  · refine (block_first tok row htok hrow 2 _ _ _ _ brow qs i k).trans ?_
    rw [tileScore_block 0 2 128 _ q kt sc brow qs i k _ rfl]
    pointwise
    rfl
  · refine (block_first tok row htok hrow 3 _ _ _ _ brow qs i k).trans ?_
    rw [tileScore_block 0 3 128 _ q kt sc brow qs i k _ rfl]
    pointwise
    rfl

/-- Tile 1 at row `i`, column `e`. -/
theorem tile1_apply (q : FVec Ideal S512x128 .bf16) (kt : FVec Ideal S128x512 .bf16) (sc : FVec Ideal S1x512 .f32)
    (brow : FVec Ideal (Sh 1 256) .f32) (tok row : IVec S32x128 32)
    (htok : ∀ i k, tok (ix2 i k) = BitVec.ofNat 32 (tokenOf k.val)) (hrow : ∀ i k, row (ix2 i k) = BitVec.ofNat 32 i.val)
    (qs : Fin 4 → EReal) (v : Vec Ideal S1x1x256x128 .fp8e4m3) (vs : FVec Ideal S1x128 .f32) (i e : Fin 128) :
    tile1 (F := Ideal) q kt sc brow tok row qs v vs (ix3 0 i e)
      = rowK 256 ((448 : ℝ) : EReal) (tileScore 1 256 (by decide) q kt sc brow qs i) (fun k => v (ix4 0 0 k e))
        * vs (ix2 0 e) := by
  refine weigh_quant 256 _ _ _ _ _ _ _ _ _ _ _ _ _ _ v vs (tileScore 1 256 (by decide) q kt sc brow qs) ?_ ?_ ?_ ?_ i e
    (fun k => by pointwise) <;> intro i k
  · refine (block_tail 256 128 rfl rfl _ _ _ tok row htok hrow 0 _ _ _ _ brow qs i k).trans ?_
    rw [tileScore_block 1 0 256 _ q kt sc brow qs i k _ rfl]
    pointwise
    rfl
  · refine (block_tail 256 128 rfl rfl _ _ _ tok row htok hrow 1 _ _ _ _ brow qs i k).trans ?_
    rw [tileScore_block 1 1 256 _ q kt sc brow qs i k _ rfl]
    pointwise
    rfl
  · refine (block_tail 256 128 rfl rfl _ _ _ tok row htok hrow 2 _ _ _ _ brow qs i k).trans ?_
    rw [tileScore_block 1 2 256 _ q kt sc brow qs i k _ rfl]
    pointwise
    rfl
  · refine (block_tail 256 128 rfl rfl _ _ _ tok row htok hrow 3 _ _ _ _ brow qs i k).trans ?_
    rw [tileScore_block 1 3 256 _ q kt sc brow qs i k _ rfl]
    pointwise
    rfl

/-- Tile 2 at row `i`, column `e`. -/
theorem tile2_apply (q : FVec Ideal S512x128 .bf16) (kt : FVec Ideal S128x512 .bf16) (sc : FVec Ideal S1x512 .f32)
    (brow : FVec Ideal (Sh 1 384) .f32) (tok row : IVec S32x128 32)
    (htok : ∀ i k, tok (ix2 i k) = BitVec.ofNat 32 (tokenOf k.val)) (hrow : ∀ i k, row (ix2 i k) = BitVec.ofNat 32 i.val)
    (qs : Fin 4 → EReal) (v : Vec Ideal S1x1x384x128 .fp8e4m3) (vs : FVec Ideal S1x128 .f32) (i e : Fin 128) :
    tile2 (F := Ideal) q kt sc brow tok row qs v vs (ix3 0 i e)
      = rowK 256 ((448 : ℝ) : EReal) (tileScore 2 384 (by decide) q kt sc brow qs i) (fun k => v (ix4 0 0 k e))
        * vs (ix2 0 e) := by
  refine weigh_quant 384 _ _ _ _ _ _ _ _ _ _ _ _ _ _ v vs (tileScore 2 384 (by decide) q kt sc brow qs) ?_ ?_ ?_ ?_ i e
    (fun k => by pointwise) <;> intro i k
  · refine (block_tail 384 256 rfl rfl _ _ _ tok row htok hrow 0 _ _ _ _ brow qs i k).trans ?_
    rw [tileScore_block 2 0 384 _ q kt sc brow qs i k _ rfl]
    pointwise
    rfl
  · refine (block_tail 384 256 rfl rfl _ _ _ tok row htok hrow 1 _ _ _ _ brow qs i k).trans ?_
    rw [tileScore_block 2 1 384 _ q kt sc brow qs i k _ rfl]
    pointwise
    rfl
  · refine (block_tail 384 256 rfl rfl _ _ _ tok row htok hrow 2 _ _ _ _ brow qs i k).trans ?_
    rw [tileScore_block 2 2 384 _ q kt sc brow qs i k _ rfl]
    pointwise
    rfl
  · refine (block_tail 384 256 rfl rfl _ _ _ tok row htok hrow 3 _ _ _ _ brow qs i k).trans ?_
    rw [tileScore_block 2 3 384 _ q kt sc brow qs i k _ rfl]
    pointwise
    rfl

/-- Tile 3 at row `i`, column `e`. -/
theorem tile3_apply (q : FVec Ideal S512x128 .bf16) (kt : FVec Ideal S128x512 .bf16) (sc : FVec Ideal S1x512 .f32)
    (brow : FVec Ideal (Sh 1 512) .f32) (tok row : IVec S32x128 32)
    (htok : ∀ i k, tok (ix2 i k) = BitVec.ofNat 32 (tokenOf k.val)) (hrow : ∀ i k, row (ix2 i k) = BitVec.ofNat 32 i.val)
    (qs : Fin 4 → EReal) (v : Vec Ideal S1x1x512x128 .fp8e4m3) (vs : FVec Ideal S1x128 .f32) (i e : Fin 128) :
    tile3 (F := Ideal) q kt sc brow tok row qs v vs (ix3 0 i e)
      = rowK 256 ((448 : ℝ) : EReal) (tileScore 3 512 (by decide) q kt sc brow qs i) (fun k => v (ix4 0 0 k e))
        * vs (ix2 0 e) := by
  refine weigh_quant 512 _ _ _ _ _ _ _ _ _ _ _ _ _ _ v vs (tileScore 3 512 (by decide) q kt sc brow qs) ?_ ?_ ?_ ?_ i e
    (fun k => by pointwise) <;> intro i k
  · refine (block_tail 512 384 rfl rfl _ _ _ tok row htok hrow 0 _ _ _ _ brow qs i k).trans ?_
    rw [tileScore_block 3 0 512 _ q kt sc brow qs i k _ rfl]
    pointwise
    rfl
  · refine (block_tail 512 384 rfl rfl _ _ _ tok row htok hrow 1 _ _ _ _ brow qs i k).trans ?_
    rw [tileScore_block 3 1 512 _ q kt sc brow qs i k _ rfl]
    pointwise
    rfl
  · refine (block_tail 512 384 rfl rfl _ _ _ tok row htok hrow 2 _ _ _ _ brow qs i k).trans ?_
    rw [tileScore_block 3 2 512 _ q kt sc brow qs i k _ rfl]
    pointwise
    rfl
  · refine (block_tail 512 384 rfl rfl _ _ _ tok row htok hrow 3 _ _ _ _ brow qs i k).trans ?_
    rw [tileScore_block 3 3 512 _ q kt sc brow qs i k _ rfl]
    pointwise
    rfl

end Cert.Tile

end
-- ==== Proof.Nibble.lean ====
module

public import Idealize.ShloMosaic.PureOps.Ideal
public import Idealize.ShloMosaic.Lib.Pointwise

@[expose] public section

/-!
# The four-bit integers packed two to a byte
-/

noncomputable section

namespace Cert.Nibble

open Idealize.ShloMosaic

/-- Half `b` (its parity counts) of the byte `w`, as a signed four-bit integer: the low half at an even `b`. -/
def half (w : BitVec 8) (b : ℕ) : ℤ := if b % 2 = 0 then (w.extractLsb' 0 4).toInt else (w.extractLsb' 4 4).toInt

/-- The same as an extended real. -/
def nib (w : BitVec 8) (b : ℕ) : EReal := ((half w b : ℝ) : EReal)

/-- Shifting the byte up and back down in a 32-bit word sign-extends its low half. -/
theorem lo_word : ∀ w : BitVec 8, (IntOp.shrsi .vector (IntOp.shli .vector (BitVec.setWidth 32 w) 28#32) 28#32).toInt
    = (w.extractLsb' 0 4).toInt := by decide +kernel

/-- The same for the high half. -/
theorem hi_word : ∀ w : BitVec 8, (IntOp.shrsi .vector (IntOp.shli .vector (BitVec.setWidth 32 w) 24#32) 28#32).toInt
    = (w.extractLsb' 4 4).toInt := by decide +kernel

/-- The kernel's reading of a low half. -/
theorem nib_lo (w : BitVec 8) :
    FloatOps.sitofp (F := Ideal) .f32 (IntOp.shrsi .vector (IntOp.shli .vector (BitVec.setWidth 32 w) 28#32) 28#32) = nib w 0 := by
  unfold nib half
  rw [if_pos rfl, ← lo_word]
  rfl

/-- The kernel's reading of a high half. -/
theorem nib_hi (w : BitVec 8) :
    FloatOps.sitofp (F := Ideal) .f32 (IntOp.shrsi .vector (IntOp.shli .vector (BitVec.setWidth 32 w) 24#32) 28#32) = nib w 1 := by
  unfold nib half
  rw [if_neg (by decide), ← hi_word]
  rfl

/-- Only the half's parity counts. -/
theorem nib_congr {w w' : BitVec 8} {b b' : ℕ} (hw : w = w') (hb : b % 2 = b' % 2) : nib w b = nib w' b' := by
  unfold nib half
  rw [hw, hb]

end Cert.Nibble

end
-- ==== Proof.KernelParts.lean ====
module

public import proofs.«01_k».proof.Proof.Gen.KernelIdeal.Skeleton
public import proofs.«01_k».proof.Proof.Pieces
public import proofs.«01_k».proof.Proof.TileScore
public import proofs.«01_k».proof.Proof.Nibble

@[expose] public section

set_option maxRecDepth 16384

/-!
# The kernel's operands, read at an index
-/

noncomputable section

namespace Cert.Tile

open Idealize.ShloMosaic Cert.KernelIdeal Cert.Row Cert.Nibble

/-- The place along the head dimension that the kernel's reordered dot product reads at position `c`. -/
def src (c : Fin 128) : Fin 128 := ⟨2 * (c.val % 64) + c.val / 64, by omega⟩

/-- The reordering is a bijection. -/
theorem src_bijective : Function.Bijective src := by
  refine Finite.injective_iff_bijective.mp fun a b h => ?_
  have := congrArg Fin.val h
  unfold src at this
  simp only at this
  exact Fin.ext (by omega)

/-- The packed row that holds the key at position `j`. -/
def keyRow (j : Fin 512) : Fin 256 := ⟨64 * (j.val / 128) + j.val % 64, by omega⟩

/-- The kernel's keys: position `j` is half `j / 64` of its packed row. -/
theorem pay2_apply (x : Vec Ideal S1x1x256x128 .i8) (j : Fin 512) (d : Fin 128) :
    Gen.k0_pay2 x (ix2 j d) = nib (x (ix4 0 0 (keyRow j) d)) (j.val / 64) := by
  pointwise [Gen.k0_pay2]
  simp only [nib_lo, nib_hi]
  split_ifs <;> first
    | exact absurd rfl ‹¬_ = _›
    | exact nib_congr (congrArg (fun u => x (ix4 0 0 u d)) (Fin.ext (by unfold keyRow; simp only; omega))) (by omega)

/-- The word of the one-hot matrix. -/
theorem hot_word : ∀ c e : Fin 128, (BitVec.setWidth 32 (IntOp.cmpi .eq (BitVec.ofNat 32 e.val)
    (Scalar.select (IntOp.cmpi .slt (BitVec.ofNat 32 c.val) 64#32) (IntOp.muli (2#32) (BitVec.ofNat 32 c.val))
      (IntOp.addi (IntOp.muli (2#32) (IntOp.subi (BitVec.ofNat 32 c.val) 64#32)) 1#32)))).toInt
    = if e = src c then 1 else 0 := by decide +kernel

/-- The kernel's transposed keys: the product with the one-hot matrix reorders the head dimension. -/
theorem pay3_apply (x : Vec Ideal S1x1x256x128 .i8) (c : Fin 128) (j : Fin 512) :
    Gen.k0_pay3 x (ix2 c j) = nib (x (ix4 0 0 (keyRow j) (src c))) (j.val / 64) := by
  pointwise [Gen.k0_pay3]
  rw [← pay2_apply, Finset.sum_eq_single (src c)]
  · have h : ∀ w : BitVec 32, w.toInt = 1 → FloatOps.sitofp (F := Ideal) .f32 w = (1 : EReal) := by
      intro w hw
      show ((w.toInt : ℝ) : EReal) = 1
      rw [hw]; norm_num
    rw [h _ ((hot_word c (src c)).trans (if_pos rfl)), one_mul]
  · intro e _ he
    have h : ∀ w : BitVec 32, w.toInt = 0 → FloatOps.sitofp (F := Ideal) .f32 w = (0 : EReal) := by
      intro w hw
      show ((w.toInt : ℝ) : EReal) = 0
      rw [hw]; norm_num
    rw [h _ ((hot_word c e).trans (if_neg he)), zero_mul]
  · exact fun h => absurd (Finset.mem_univ _) h

/-- The kernel's one constant: one over the square root of 128, times one over the logarithm of 2. -/
def cScale : EReal := Named.named (F := Ideal) (φ := .f32) κ "score_scale_log2e" 0x3E0293EE#32

/-- The keys' scales times that constant. -/
theorem pay4_apply (x : Vec Ideal S1x1x1x512 .f32) (j : Fin 512) :
    Gen.k0_pay4 x (ix2 0 j) = x (ix4 0 0 0 j) * cScale := by
  pointwise [Gen.k0_pay4]
  rfl

/-- The mean queries against the keys, times the keys' scales and that constant. -/
theorem pay5_apply (k : FVec Ideal S512x128 .bf16) (y : Vec Ideal S1x1x20x128 .bf16) (x : Vec Ideal S1x1x1x512 .f32) (n : Fin 20) (j : Fin 512) :
    Gen.k0_pay5 k y x (ix2 n j) = (∑ e, y (ix4 0 0 n e) * k (ix2 j e)) * (x (ix4 0 0 0 j) * cScale) := by
  pointwise [Gen.k0_pay5]
  rw [pay4_apply]

/-- The value scales times 1/256. -/
theorem pay6_apply (x : Vec Ideal S1x1x1x128 .f32) (e : Fin 128) :
    Gen.k0_pay6 x (ix2 0 e) = x (ix4 0 0 0 e) * Ideal.ofBits .f32 0x3B800000#32 := by
  pointwise [Gen.k0_pay6]

/-- The word of the token that the diagonal tile's column holds. -/
theorem tok_word : ∀ k : Fin 128, Scalar.select (IntOp.cmpi .slt (BitVec.ofNat 32 k.val) 64#32) (IntOp.muli (2#32) (BitVec.ofNat 32 k.val))
      (IntOp.addi (IntOp.muli (2#32) (IntOp.subi (BitVec.ofNat 32 k.val) 64#32)) 1#32) = BitVec.ofNat 32 (tokenOf k.val) := by
  decide +kernel

/-- The token of a diagonal tile's column. -/
theorem pay7_apply (i : Fin 32) (k : Fin 128) : Gen.k0_pay7 (ix2 i k) = BitVec.ofNat 32 (tokenOf k.val) := by
  pointwise [Gen.k0_pay7]
  exact tok_word k

variable [Facts]

/-- The row number within a block of 32 rows. -/
theorem rowNo_apply (i : Fin 32) (k : Fin 128) : rowNo (ix2 i k) = BitVec.ofNat 32 i.val := by
  pointwise [rowNo]

/-- The kernel's queries: position `c` is half `c / 64` of byte `c % 64`. -/
theorem query_apply (x : Vec Ideal S1x1x512x64 .i8) (s : Fin 512) (c : Fin 128) :
    query x (ix2 s c) = nib (x (ix4 0 0 s ⟨(src c).val / 2, by omega⟩)) (src c).val := by
  pointwise [query]
  simp only [nib_lo, nib_hi]
  split_ifs <;> first
    | exact absurd rfl ‹¬_ = _›
    | exact nib_congr (congrArg (fun u => x (ix4 0 0 s u)) (Fin.ext (by unfold src; simp only; omega)))
        (by unfold src; simp only; omega)

end Cert.Tile

end
-- ==== Proof.KernelBlock.lean ====
module

public import proofs.«01_k».proof.Proof.KernelParts
public import Idealize.ShloMosaic.Lib.WholeRead
public import Idealize.ShloMosaic.Lib.Pipeline.ValueKit.Geometry

@[expose] public section

set_option maxRecDepth 16384

/-!
# The block the kernel leaves, as a function of its input blocks
-/

noncomputable section

namespace Cert.Tile

open Idealize.ShloMosaic Cert.KernelIdeal Cert.Row Cert.Nibble

/-- The integer product of query row `s` of head `g` with the key at position `j`. -/
def dotQK (x1 : Vec Ideal S1x5x512x64 .i8) (x3 : Vec Ideal S1x1x256x128 .i8) (g : Fin 5) (s j : Fin 512) : EReal :=
  ∑ e : Fin 128, nib (x1 (ix4 0 g s ⟨e.val / 2, by omega⟩)) e.val * nib (x3 (ix4 0 0 (keyRow j) e)) (j.val / 64)

/-- The product of the mean query of row `s`'s 128 rows with the key at position `j`. -/
def dotMean (x2 : Vec Ideal S1x1x20x128 .bf16) (x3 : Vec Ideal S1x1x256x128 .i8) (g : Fin 5) (s j : Fin 512) : EReal :=
  ∑ e : Fin 128, x2 (ix4 0 0 ⟨4 * g.val + s.val / 128, by omega⟩ e) * nib (x3 (ix4 0 0 (keyRow j) e)) (j.val / 64)

/-- The kernel's masked score of query row `s` of head `g` against the key at position `j`. -/
def scoreK (x0 : Vec Ideal S1x1x80 .f32) (x1 : Vec Ideal S1x5x512x64 .i8) (x2 : Vec Ideal S1x1x20x128 .bf16)
    (x3 : Vec Ideal S1x1x256x128 .i8) (x4 : Vec Ideal S1x1x1x512 .f32) (g : Fin 5) (s j : Fin 512) : EReal :=
  if tokenOf j.val ≤ s.val then
    dotQK x1 x3 g s j * (x4 (ix4 0 0 0 j) * cScale * x0 (ix3 0 0 ⟨16 * g.val + s.val / 32, by omega⟩))
      + dotMean x2 x3 g s j * (x4 (ix4 0 0 0 j) * cScale)
  else ⊥

/-- What the kernel leaves for query row `s` of head `g` at value column `e`, having attended to the first `L` keys. -/
def outK (x0 : Vec Ideal S1x1x80 .f32) (x1 : Vec Ideal S1x5x512x64 .i8) (x2 : Vec Ideal S1x1x20x128 .bf16)
    (x3 : Vec Ideal S1x1x256x128 .i8) (x4 : Vec Ideal S1x1x1x512 .f32) (x5 : Vec Ideal S1x1x512x128 .fp8e4m3)
    (x6 : Vec Ideal S1x1x1x128 .f32) (L : ℕ) (hL : L ≤ 512) (g : Fin 5) (s : Fin 512) (e : Fin 128) : EReal :=
  rowK 256 ((448 : ℝ) : EReal) (fun k : Fin L => scoreK x0 x1 x2 x3 x4 g s (Fin.castLE hL k))
      (fun k => x5 (ix4 0 0 (Fin.castLE hL k) e))
    * (x6 (ix4 0 0 0 e) * Ideal.ofBits .f32 0x3B800000#32)

/-- The whole block: a query row attends to the keys of its own 128 rows and of those before them. -/
def blockK (x0 : Vec Ideal S1x1x80 .f32) (x1 : Vec Ideal S1x5x512x64 .i8) (x2 : Vec Ideal S1x1x20x128 .bf16)
    (x3 : Vec Ideal S1x1x256x128 .i8) (x4 : Vec Ideal S1x1x1x512 .f32) (x5 : Vec Ideal S1x1x512x128 .fp8e4m3)
    (x6 : Vec Ideal S1x1x1x128 .f32) (s : Fin 512) (c : Fin 640) : EReal :=
  outK x0 x1 x2 x3 x4 x5 x6 (128 * (s.val / 128 + 1)) (by omega) ⟨c.val / 128, by omega⟩ s ⟨c.val % 128, by omega⟩

/-- The block at a row and column of tile `t` of head `g`. -/
theorem blockK_tile (x0 x1 x2 x3 x4 x5 x6) (t : Fin 4) (g : Fin 5) (i e : Fin 128) (L : ℕ) (hL : L ≤ 512)
    (h : L = 128 * (t.val + 1)) (s : Fin 512) (hs : s.val = 128 * t.val + i.val) (c : Fin 640)
    (hc : c.val = 128 * g.val + e.val) :
    blockK x0 x1 x2 x3 x4 x5 x6 s c = outK x0 x1 x2 x3 x4 x5 x6 L hL g s e := by
  have h1 : L = 128 * (s.val / 128 + 1) := by omega
  subst h1
  unfold blockK
  rw [show (⟨c.val / 128, by omega⟩ : Fin 5) = g from Fin.ext (by simp only; omega),
    show (⟨c.val % 128, by omega⟩ : Fin 128) = e from Fin.ext (by simp only; omega)]

/-- The scores of a tile are the kernel's masked scores. -/
theorem tileScore_eq [Facts] (x0 : Vec Ideal S1x1x80 .f32) (x1 : Vec Ideal S1x5x512x64 .i8) (xm : Vec Ideal S1x1x20x128 .bf16)
    (xk : Vec Ideal S1x1x256x128 .i8) (xs : Vec Ideal S1x1x1x512 .f32) (qs : Fin 80 → Elt Ideal .f32)
    (hqs : ∀ n, qs n = x0 (ix3 0 0 n)) (g : Fin 5) (xq : Vec Ideal S1x1x512x64 .i8)
    (hq : ∀ s c, xq (ix4 0 0 s c) = x1 (ix4 0 g s c)) (t : Fin 4) (L : ℕ) (hL : L ≤ 512)
    (brow : FVec Ideal (Sh 1 L) .f32)
    (hb : ∀ k, brow (ix2 0 k) = Gen.k0_pay5 (Gen.k0_pay2 xk) xm xs (ix2 ⟨4 * g.val + t.val, by omega⟩ (Fin.castLE hL k)))
    (i : Fin 128) (k : Fin L) :
    tileScore t L hL (query xq) (Gen.k0_pay3 xk) (Gen.k0_pay4 xs) brow (rowScale qs g t) i k
      = scoreK x0 x1 xm xk xs g ⟨128 * t.val + i.val, by omega⟩ (Fin.castLE hL k) := by
  unfold tileScore scoreK
  refine if_congr Iff.rfl ?_ rfl
  rw [hb, pay4_apply, pay5_apply]
  refine congrArg₂ (· + ·) (congrArg₂ (· * ·) ?_ (congrArg (xs (ix4 0 0 0 (Fin.castLE hL k)) * cScale * ·) ?_)) (congrArg (· * _) ?_)
  · simp only [query_apply, pay3_apply, hq]
    exact src_bijective.sum_comp (fun e : Fin 128 => nib (x1 (ix4 0 g ⟨128 * t.val + i.val, by omega⟩ ⟨e.val / 2, by omega⟩)) e.val
      * nib (xk (ix4 0 0 (keyRow (Fin.castLE hL k)) e)) ((Fin.castLE hL k).val / 64))
  · exact (hqs _).trans (congrArg (fun u => x0 (ix3 0 0 u)) (Fin.ext (by simp only; omega)))
  · unfold dotMean
    refine Finset.sum_congr rfl fun e _ => ?_
    rw [pay2_apply]
    exact congrArg (fun u => xm (ix4 0 0 u e) * _) (Fin.ext (by simp only; omega))

/-- The mean-query row of tile `t` of head `g`. -/
theorem meanRow_apply (L : ℕ) (hL : L ≤ 512) (g : Fin 5) (t : Fin 4) (h) (b : FVec Ideal S20x512 .f32) (k : Fin L) :
    meanRow L g t h b (ix2 0 k) = b (ix2 ⟨4 * g.val + t.val, by omega⟩ (Fin.castLE hL k)) := by
  pointwise [meanRow]
  rfl

/-- The row of the block at which a tile's row is stored. -/
theorem place_row (g : Fin 5) (t : Fin 4) (z : Fin 1) (i e : Fin 128) :
    ((place g t).emb (show (place g t).shape.Idx from ix3 z i e) 1).val = 128 * t.val + i.val := by
  exact ValueKit.rect_emb_unit_val _ _ _ _ _

/-- The column of the block at which a tile's column is stored. -/
theorem place_col (g : Fin 5) (t : Fin 4) (z : Fin 1) (i e : Fin 128) :
    ((place g t).emb (show (place g t).shape.Idx from ix3 z i e) 2).val = 128 * g.val + e.val := by
  exact ValueKit.rect_emb_unit_val _ _ _ _ _

/-- The attention of a tile, read at the place where the tile is stored, is the block there. -/
theorem tile_agrees [Facts] (y0 : Vec Ideal S1x1x80 .f32) (y1 : Vec Ideal S1x5x512x64 .i8) (xm : Vec Ideal S1x1x20x128 .bf16)
    (xk : Vec Ideal S1x1x256x128 .i8) (xs : Vec Ideal S1x1x1x512 .f32) (x5 : Vec Ideal S1x1x512x128 .fp8e4m3)
    (xv : Vec Ideal S1x1x1x128 .f32) (qs : Fin 80 → Elt Ideal .f32)
    (hqs : ∀ n, qs n = y0 (ix3 0 0 n)) (g : Fin 5) (xq : Vec Ideal S1x1x512x64 .i8)
    (hq : ∀ s c, xq (ix4 0 0 s c) = y1 (ix4 0 g s c)) (t : Fin 4) (L : ℕ) (hL : L ≤ 512) (hLt : L = 128 * (t.val + 1)) (h)
    (v : Vec Ideal ⟨4, ![1, 1, L, 128]⟩ .fp8e4m3)
    (hv : ∀ k e, v (ix4 0 0 k e) = x5 (ix4 0 0 (Fin.castLE hL k) e)) (i e : Fin 128)
    (s : Fin 512) (hs : s.val = 128 * t.val + i.val) (c : Fin 640) (hc : c.val = 128 * g.val + e.val) :
    rowK 256 ((448 : ℝ) : EReal) (tileScore t L hL (query xq) (Gen.k0_pay3 xk) (Gen.k0_pay4 xs)
        (meanRow L g t h (Gen.k0_pay5 (Gen.k0_pay2 xk) xm xs)) (rowScale qs g t) i) (fun k => v (ix4 0 0 k e))
        * Gen.k0_pay6 xv (ix2 0 e)
      = blockK y0 y1 xm xk xs x5 xv s c := by
  rw [blockK_tile y0 y1 xm xk xs x5 xv t g i e L hL hLt s hs c hc]
  unfold outK
  rw [pay6_apply, funext (tileScore_eq y0 y1 xm xk xs qs hqs g xq hq t L hL (meanRow L g t h _) (meanRow_apply L hL g t h _) i),
    funext fun k => hv k e]
  refine congrArg (fun s : Fin 512 => rowK 256 ((448 : ℝ) : EReal) (fun k : Fin L => scoreK y0 y1 xm xk xs g s (Fin.castLE hL k))
      (fun k => x5 (ix4 0 0 (Fin.castLE hL k) e)) * (xv (ix4 0 0 0 e) * Ideal.ofBits .f32 0x3B800000#32)) (Fin.ext hs.symm)

/-- Each of a head's four stores agrees with the block. -/
theorem head_agrees [Facts] (y0 : Vec Ideal S1x1x80 .f32) (y1 : Vec Ideal S1x5x512x64 .i8) (xm : Vec Ideal S1x1x20x128 .bf16)
    (xk : Vec Ideal S1x1x256x128 .i8) (xs : Vec Ideal S1x1x1x512 .f32) (x5 : Vec Ideal S1x1x512x128 .fp8e4m3)
    (xv : Vec Ideal S1x1x1x128 .f32) (qs : Fin 80 → Elt Ideal .f32)
    (hqs : ∀ n, qs n = y0 (ix3 0 0 n)) (g : Fin 5) (xq : Vec Ideal S1x1x512x64 .i8)
    (hq : ∀ s c, xq (ix4 0 0 s c) = y1 (ix4 0 g s c)) (v0 v1 v2 v3)
    (h0 : ∀ k e, v0 (ix4 0 0 k e) = x5 (ix4 0 0 (Fin.castLE (by decide) k) e))
    (h1 : ∀ k e, v1 (ix4 0 0 k e) = x5 (ix4 0 0 (Fin.castLE (by decide) k) e))
    (h2 : ∀ k e, v2 (ix4 0 0 k e) = x5 (ix4 0 0 (Fin.castLE (by decide) k) e))
    (h3 : ∀ k e, v3 (ix4 0 0 k e) = x5 (ix4 0 0 (Fin.castLE (by decide) k) e)) :
    ∀ p ∈ headPieces (F := Ideal) g qs xq xm xk xs v0 v1 v2 v3 xv, ∀ x : p.1.shape.Idx,
      p.2 x = blockK y0 y1 xm xk xs x5 xv (p.1.emb x 1) (p.1.emb x 2) := by
  intro p hp
  simp only [headPieces, List.mem_cons, List.not_mem_nil, or_false] at hp
  rcases hp with rfl | rfl | rfl | rfl <;> intro x <;> dsimp only at x ⊢ <;> idx_vars x
  · refine Eq.trans ?_ (tile_agrees y0 y1 xm xk xs x5 xv qs hqs g xq hq 3 512 (by decide) rfl (by clear hq; revert g; decide) v3 h3 x1 x2 _ (place_row g 3 _ x1 x2) _ (place_col g 3 _ x1 x2))
    obtain rfl : x0 = 0 := Subsingleton.elim _ _
    exact tile3_apply (query xq) (Gen.k0_pay3 xk) (Gen.k0_pay4 xs) _ _ _ pay7_apply rowNo_apply _ _ _ _ _
  · refine Eq.trans ?_ (tile_agrees y0 y1 xm xk xs x5 xv qs hqs g xq hq 2 384 (by decide) rfl (by clear hq; revert g; decide) v2 h2 x1 x2 _ (place_row g 2 _ x1 x2) _ (place_col g 2 _ x1 x2))
    obtain rfl : x0 = 0 := Subsingleton.elim _ _
    exact tile2_apply (query xq) (Gen.k0_pay3 xk) (Gen.k0_pay4 xs) _ _ _ pay7_apply rowNo_apply _ _ _ _ _
  · refine Eq.trans ?_ (tile_agrees y0 y1 xm xk xs x5 xv qs hqs g xq hq 1 256 (by decide) rfl (by clear hq; revert g; decide) v1 h1 x1 x2 _ (place_row g 1 _ x1 x2) _ (place_col g 1 _ x1 x2))
    obtain rfl : x0 = 0 := Subsingleton.elim _ _
    exact tile1_apply (query xq) (Gen.k0_pay3 xk) (Gen.k0_pay4 xs) _ _ _ pay7_apply rowNo_apply _ _ _ _ _
  · refine Eq.trans ?_ (tile_agrees y0 y1 xm xk xs x5 xv qs hqs g xq hq 0 128 (by decide) rfl (by clear hq; revert g; decide) v0 h0 x1 x2 _ (place_row g 0 _ x1 x2) _ (place_col g 0 _ x1 x2))
    obtain rfl : x0 = 0 := Subsingleton.elim _ _
    exact tile0_apply (query xq) (Gen.k0_pay3 xk) (Gen.k0_pay4 xs) _ _ _ pay7_apply rowNo_apply _ _ _ _ _

/-- A load of a whole buffer is what the buffer holds. -/
theorem load_whole {κ : Kind} {sp : Space} {s : Shape} {e : EltTy} (m : Memref sig κ sp s e) (h : m.IsWhole) (X : Vec Ideal s e)
    (off : Fin s.rank → ℕ) (hoff : ∀ a, off a = 0) (inb) :
    View.readAt (Elt Ideal) m.view (Rect.unit off s.size inb).toLoadRect (h.unread X) = X := by
  funext x
  refine (h.readAt_unread X _ x).trans (congrArg X (funext fun a => Fin.ext ?_))
  show off a + 1 * (x a).val = (x a).val
  rw [hoff, one_mul, zero_add]

/-- A load of the first `L` rows of the values, entry by entry. -/
theorem load_rows (m : Memref sig .tc .vmem S1x1x512x128 .fp8e4m3) (h : m.IsWhole) (X : Vec Ideal S1x1x512x128 .fp8e4m3)
    (L : ℕ) (hL : L ≤ 512) (inb) (k : Fin L) (e : Fin 128) :
    View.readAt (Elt Ideal) m.view (Rect.unit (s := S1x1x512x128) ![0, 0, 0, 0] ![1, 1, L, 128] inb).toLoadRect (h.unread X)
      (ix4 0 0 k e) = X (ix4 0 0 (Fin.castLE hL k) e) := by
  refine (h.readAt_unread X _ _).trans (congrArg X (funext fun a => Fin.ext ?_))
  fin_cases a
  · rfl
  · rfl
  · show 0 + 1 * k.val = k.val
    omega
  · show 0 + 1 * e.val = e.val
    omega

/-- A load of one scale. -/
theorem load_scale (m : Memref sig .tc .smem S1x1x80 .f32) (h : m.IsWhole) (X : Vec Ideal S1x1x80 .f32) (n : Fin 80) :
    View.readAt (Elt Ideal) m.view (scalePlace n).toLoadRect (h.unread X) (Shape.Idx.first one_cell) = X (ix3 0 0 n) := by
  refine (h.readAt_unread X _ _).trans (congrArg X (funext fun a => Fin.ext ?_))
  fin_cases a <;> rfl

/-- A load of one head's bytes. -/
theorem load_head (m : Memref sig .tc .vmem S1x5x512x64 .i8) (h : m.IsWhole) (X : Vec Ideal S1x5x512x64 .i8) (g : Fin 5)
    (s : Fin 512) (c : Fin 64) :
    View.readAt (Elt Ideal) m.view (headPlace g).toLoadRect (h.unread X) (ix4 0 0 s c) = X (ix4 0 g s c) := by
  refine (h.readAt_unread X _ _).trans (congrArg X (funext fun a => Fin.ext ?_))
  fin_cases a
  · rfl
  · rfl
  · show 0 + 1 * s.val = s.val
    omega
  · show 0 + 1 * c.val = c.val
    omega

/-- What the body leaves in the output's staging buffer, entry by entry. -/
theorem out_apply [Facts] (c : Dev nD) (i : grid0.Coords) (arg2 : Memref sig .tc .smem S1x1x80 .f32) (harg2 : arg2.IsWhole) (arg3 : Memref sig .tc .vmem S1x5x512x64 .i8) (harg3 : arg3.IsWhole) (arg4 : Memref sig .tc .vmem S1x1x20x128 .bf16) (harg4 : arg4.IsWhole) (arg5 : Memref sig .tc .vmem S1x1x256x128 .i8) (harg5 : arg5.IsWhole) (arg6 : Memref sig .tc .vmem S1x1x1x512 .f32) (harg6 : arg6.IsWhole) (arg7 : Memref sig .tc .vmem S1x1x512x128 .fp8e4m3) (harg7 : arg7.IsWhole) (arg8 : Memref sig .tc .vmem S1x1x1x128 .f32) (harg8 : arg8.IsWhole) (arg9 : Memref sig .tc .vmem S1x512x640 .bf16) (harg9 : arg9.IsWhole)
    (x0 : Vec Ideal S1x1x80 .f32) (x1 : Vec Ideal S1x5x512x64 .i8) (x2 : Vec Ideal S1x1x20x128 .bf16)
    (x3 : Vec Ideal S1x1x256x128 .i8) (x4 : Vec Ideal S1x1x1x512 .f32) (x5 : Vec Ideal S1x1x512x128 .fp8e4m3)
    (x6 : Vec Ideal S1x1x1x128 .f32) (y : S1x512x640.Idx) :
    Gen.out0_A_7 (F := Ideal) c i arg2 harg2 arg3 harg3 arg4 harg4 arg5 harg5 arg6 harg6 arg7 harg7 arg8 harg8 arg9 harg9 x0 x1 x2 x3 x4 x5 x6 y
      = blockK x0 x1 x2 x3 x4 x5 x6 (y 1) (y 2) := by
  unfold Gen.out0_A_7
  refine View.read_writes_apply_of_pieces Gen.VO0_7 _ (fun y => blockK x0 x1 x2 x3 x4 x5 x6 (y 1) (y 2)) _ ?_ y
    (Gen.cover0_A_7 c i arg2 harg2 arg3 harg3 arg4 harg4 arg5 harg5 arg6 harg6 arg7 harg7 arg8 harg8 arg9 harg9 x0 x1 x2 x3 x4 x5 x6 y)
  rw [run_pieces]
  rw [load_whole arg4 harg4 x2 ![0, 0, 0, 0] (by decide), load_whole arg5 harg5 x3 ![0, 0, 0, 0] (by decide),
    load_whole arg6 harg6 x4 ![0, 0, 0, 0] (by decide), load_whole arg8 harg8 x6 ![0, 0, 0, 0] (by decide)]
  have H := fun g => head_agrees x0 x1 x2 x3 x4 x5 x6 _ (load_scale arg2 harg2 x0) g _ (load_head arg3 harg3 x1 g) _ _ _ _
    (load_rows arg7 harg7 x5 128 (by decide) (by decide)) (load_rows arg7 harg7 x5 256 (by decide) (by decide))
    (load_rows arg7 harg7 x5 384 (by decide) (by decide)) (load_rows arg7 harg7 x5 512 (by decide) (by decide))
  intro p hp
  unfold allPieces at hp
  simp only [List.mem_append] at hp
  rcases hp with (((hp | hp) | hp) | hp) | hp
  exacts [H 4 p hp, H 3 p hp, H 2 p hp, H 1 p hp, H 0 p hp]

end Cert.Tile

end
-- ==== Proof.Spec.lean ====
module

public import proofs.«01_k».proof.Proof.Row
public import proofs.«01_k».proof.Proof.Nibble

@[expose] public section

set_option maxRecDepth 16384

/-!
# The attention of one query row

The function of the seven arguments that both programs compute, one entry of the result at a time. The arguments are the
query bytes `q`, the query scales `qs`, the mean queries `qm`, the key bytes `k`, the key scales `ks`, the value codes `v`
and the value scales `vs`; `b` is a batch, `h` a key/value head, `g` a query head of its group, `s` a query row, `n` a key,
`e` a channel.
-/

noncomputable section

namespace Cert.Spec

open Idealize.ShloMosaic Cert.Row Cert.Nibble

variable (q : Vec Ideal ⟨4, ![3, 512, 40, 64]⟩ .i8) (qs : Vec Ideal ⟨3, ![3, 16, 40]⟩ .f32)
  (qm : Vec Ideal ⟨4, ![3, 4, 40, 128]⟩ .bf16) (k : Vec Ideal ⟨4, ![3, 256, 8, 128]⟩ .i8)
  (ks : Vec Ideal ⟨3, ![3, 16, 8]⟩ .f32) (v : Vec Ideal ⟨4, ![3, 512, 8, 128]⟩ .fp8e4m3)
  (vs : Vec Ideal ⟨3, ![3, 8, 128]⟩ .f32)

/-- The number of query head `g` of the group of key/value head `h`. -/
def head (h : Fin 8) (g : Fin 5) : Fin 40 := ⟨5 * h.val + g.val, by omega⟩

/-- The key of token `n` at channel `e`: half `n % 2` of byte row `n / 2`. -/
def key (b : Fin 3) (h : Fin 8) (n : Fin 512) (e : Fin 128) : EReal := nib (k (ix4 b ⟨n.val / 2, by omega⟩ h e)) n.val

/-- The integer product of query row `s` with the key of token `n`. -/
def dotQ (b : Fin 3) (h : Fin 8) (g : Fin 5) (s n : Fin 512) : EReal :=
  ∑ e : Fin 128, nib (q (ix4 b s (head h g) ⟨e.val / 2, by omega⟩)) e.val * key k b h n e

/-- The product of the mean query of row `s`'s 128 rows with the key of token `n`. -/
def dotM (b : Fin 3) (h : Fin 8) (g : Fin 5) (s n : Fin 512) : EReal :=
  ∑ e : Fin 128, qm (ix4 b ⟨s.val / 128, by omega⟩ (head h g) e) * key k b h n e

/-- One over the square root of the number of channels. -/
def invRoot : EReal := (((Real.sqrt 128)⁻¹ : ℝ) : EReal)

/-- The causal score of query row `s` against the key of token `n`. -/
def score (b : Fin 3) (h : Fin 8) (g : Fin 5) (s n : Fin 512) : EReal :=
  if n.val ≤ s.val then
    invRoot * ks (ix3 b ⟨n.val / 32, by omega⟩ h)
      * (qs (ix3 b ⟨s.val / 32, by omega⟩ (head h g)) * dotQ q k b h g s n + dotM qm k b h g s n)
  else ⊥

/-- The attention of query row `s` at channel `e`: the softmax of the scores, times 256 and clipped to `[0, 448]`, weighs the
    values; the sum is divided by 256 and scaled. -/
def attend (b : Fin 3) (h : Fin 8) (g : Fin 5) (s : Fin 512) (e : Fin 128) : EReal :=
  rowR 256 ((448 : ℝ) : EReal) (score q qs qm k ks b h g s) (fun n => v (ix4 b n h e))
    * (vs (ix3 b h e) * Ideal.ofBits .f32 0x3B800000#32)

end Cert.Spec

end
-- ==== Proof.KernelValue.lean ====
module

public import proofs.«01_k».proof.Proof.KernelBlock
public import proofs.«01_k».proof.Proof.Spec

@[expose] public section

set_option maxRecDepth 16384

/-!
# The kernel's block is the attention of its query rows
-/

noncomputable section

namespace Cert.Tile

open Idealize.ShloMosaic Cert.KernelIdeal Cert.Row Cert.Nibble Cert.Spec

/-- The token the kernel holds at position `j`. -/
def token (j : Fin 512) : Fin 512 := ⟨tokenOf j.val, by unfold tokenOf; omega⟩

/-- The position at which the kernel holds token `n`. -/
def posOf (n : ℕ) : ℕ := 128 * (n / 128) + 64 * (n % 2) + n % 128 / 2

/-- The token held at the position of token `n` is `n`. -/
theorem tokenOf_posOf : ∀ n : Fin 512, tokenOf (posOf n.val) = n.val := by decide +kernel

/-- The position of the token held at position `j` is `j`. -/
theorem posOf_tokenOf : ∀ j : Fin 512, posOf (tokenOf j.val) = j.val := by decide +kernel

/-- The kernel's folded score scale. -/
theorem cScale_eq : cScale = ((((Real.sqrt 128)⁻¹ * ell : ℝ)) : EReal) :=
  IdealRules.named_const.ideal_named_scalar _ _ _ _ rfl

/-- A sum of products of nibbles is a real number. -/
theorem dotQ_real (q k) (b : Fin 3) (h : Fin 8) (g : Fin 5) (s n : Fin 512) : ∃ a : ℝ, dotQ q k b h g s n = a := by
  unfold dotQ key nib
  exact ⟨∑ e : Fin 128, (half (q (ix4 b s (head h g) ⟨e.val / 2, by omega⟩)) e.val : ℝ) * (half (k (ix4 b ⟨n.val / 2, by omega⟩ h e)) n.val : ℝ), by
    push_cast; rfl⟩

/-- Scaling the two products by the folded scale is scaling their sum, times `1 / log 2`. -/
theorem scale_eq (a c r y : ℝ) (M : EReal) :
    (a : EReal) * ((r : EReal) * ((c * ell : ℝ) : EReal) * (y : EReal)) + M * ((r : EReal) * ((c * ell : ℝ) : EReal))
      = (ell : EReal) * ((c : EReal) * (r : EReal) * ((y : EReal) * (a : EReal) + M)) := by
  rw [← EReal.coe_mul, ← EReal.coe_mul, ← EReal.coe_mul, ← EReal.coe_mul, ← EReal.coe_mul, coe_mul_add, ← EReal.coe_mul,
    coe_mul_add, ← EReal.coe_mul, ← mul_assoc (ell : EReal), ← EReal.coe_mul, mul_comm M]
  refine congrArg₂ (· + ·) (congrArg Real.toEReal ?_) (congrArg (fun u : ℝ => (u : EReal) * M) ?_) <;> ring

section

variable (q : Vec Ideal ⟨4, ![3, 512, 40, 64]⟩ .i8) (qs : Vec Ideal ⟨3, ![3, 16, 40]⟩ .f32)
  (qm : Vec Ideal ⟨4, ![3, 4, 40, 128]⟩ .bf16) (k : Vec Ideal ⟨4, ![3, 256, 8, 128]⟩ .i8)
  (ks : Vec Ideal ⟨3, ![3, 16, 8]⟩ .f32) (v : Vec Ideal ⟨4, ![3, 512, 8, 128]⟩ .fp8e4m3)
  (vs : Vec Ideal ⟨3, ![3, 8, 128]⟩ .f32) (b : Fin 3) (h : Fin 8)
  (x0 : Vec Ideal S1x1x80 .f32) (x1 : Vec Ideal S1x5x512x64 .i8) (x2 : Vec Ideal S1x1x20x128 .bf16)
  (x3 : Vec Ideal S1x1x256x128 .i8) (x4 : Vec Ideal S1x1x1x512 .f32) (x5 : Vec Ideal S1x1x512x128 .fp8e4m3)
  (x6 : Vec Ideal S1x1x1x128 .f32)

/-- The key at position `j` is the key of the token held there. -/
theorem key_eq
    (h3 : ∀ r e, x3 (ix4 0 0 r e) = k (ix4 b r h e))
    (j : Fin 512) (e : Fin 128) : nib (x3 (ix4 0 0 (keyRow j) e)) (j.val / 64) = key k b h (token j) e := by
  unfold key
  rw [h3]
  refine nib_congr (congrArg (fun u => k (ix4 b u h e)) (Fin.ext ?_)) ?_
  · simp only [keyRow, token, tokenOf]; omega
  · simp only [token, tokenOf]; omega

/-- The kernel's scores are the scores, times `1 / log 2`. -/
theorem scoreK_eq
    (h0 : ∀ (g : Fin 5) (r : Fin 16), x0 (ix3 0 0 ⟨16 * g.val + r.val, by omega⟩) = qs (ix3 b r (head h g)))
    (h1 : ∀ g s c, x1 (ix4 0 g s c) = q (ix4 b s (head h g) c))
    (h2 : ∀ (g : Fin 5) (t : Fin 4) e, x2 (ix4 0 0 ⟨4 * g.val + t.val, by omega⟩ e) = qm (ix4 b t (head h g) e))
    (h3 : ∀ r e, x3 (ix4 0 0 r e) = k (ix4 b r h e))
    (h4 : ∀ j : Fin 512, x4 (ix4 0 0 0 j) = ks (ix3 b ⟨(token j).val / 32, by omega⟩ h))
    (hqs : ∀ i, ∃ r : ℝ, qs i = r)
    (hks : ∀ i, ∃ r : ℝ, ks i = r)
    (g : Fin 5) (s j : Fin 512) :
    scoreK x0 x1 x2 x3 x4 g s j = ell * score q qs qm k ks b h g s (token j) := by
  have hQ : dotQK x1 x3 g s j = dotQ q k b h g s (token j) :=
    Finset.sum_congr rfl fun e _ => by rw [h1, key_eq k b h x3 h3]
  have hM : dotMean x2 x3 g s j = dotM qm k b h g s (token j) :=
    Finset.sum_congr rfl fun e _ => by
      rw [key_eq k b h x3 h3]
      exact congrArg (· * _) (h2 g ⟨s.val / 128, by omega⟩ e)
  have hS : x0 (ix3 0 0 ⟨16 * g.val + s.val / 32, by omega⟩) = qs (ix3 b ⟨s.val / 32, by omega⟩ (head h g)) :=
    h0 g ⟨s.val / 32, by omega⟩
  unfold scoreK score
  rw [hQ, hM, hS, h4, cScale_eq]
  obtain ⟨a, ha⟩ := dotQ_real q k b h g s (token j)
  obtain ⟨y, hy⟩ := hqs (ix3 b ⟨s.val / 32, by omega⟩ (head h g))
  obtain ⟨r, hr⟩ := hks (ix3 b ⟨(token j).val / 32, by omega⟩ h)
  rw [ha, hy, hr]
  by_cases hc : tokenOf j.val ≤ s.val
  · rw [if_pos hc, if_pos (show (token j).val ≤ s.val from hc)]
    exact scale_eq a _ r y _
  · rw [if_neg hc, if_neg (show ¬ (token j).val ≤ s.val from hc)]
    exact (EReal.coe_mul_bot_of_pos ell_pos).symm

/-- The kernel's block is the attention of its query rows. -/
theorem blockK_eq
    (h0 : ∀ (g : Fin 5) (r : Fin 16), x0 (ix3 0 0 ⟨16 * g.val + r.val, by omega⟩) = qs (ix3 b r (head h g)))
    (h1 : ∀ g s c, x1 (ix4 0 g s c) = q (ix4 b s (head h g) c))
    (h2 : ∀ (g : Fin 5) (t : Fin 4) e, x2 (ix4 0 0 ⟨4 * g.val + t.val, by omega⟩ e) = qm (ix4 b t (head h g) e))
    (h3 : ∀ r e, x3 (ix4 0 0 r e) = k (ix4 b r h e))
    (h4 : ∀ j : Fin 512, x4 (ix4 0 0 0 j) = ks (ix3 b ⟨(token j).val / 32, by omega⟩ h))
    (h5 : ∀ j e, x5 (ix4 0 0 j e) = v (ix4 b (token j) h e))
    (h6 : ∀ e, x6 (ix4 0 0 0 e) = vs (ix3 b h e))
    (hqs : ∀ i, ∃ r : ℝ, qs i = r)
    (hks : ∀ i, ∃ r : ℝ, ks i = r)
    (s : Fin 512) (c : Fin 640) :
    blockK x0 x1 x2 x3 x4 x5 x6 s c
      = attend q qs qm k ks v vs b h ⟨c.val / 128, by omega⟩ s ⟨c.val % 128, by omega⟩ := by
  unfold blockK outK attend
  rw [h6]
  refine congrArg (· * _) ?_
  simp only [h5]
  refine rowK_eq_rowR (fun j => token (Fin.castLE (by omega) j)) ?_ (score q qs qm k ks b h ⟨c.val / 128, by omega⟩ s) _ ?_ ?_ 256
    (by norm_num) _ (by exact_mod_cast (by norm_num : (0 : ℝ) ≤ 448)) (fun n => v (ix4 b n h ⟨c.val % 128, by omega⟩))
  · intro i j hij
    have := congrArg posOf (congrArg Fin.val hij)
    exact Fin.ext (((posOf_tokenOf (Fin.castLE _ i)).symm.trans this).trans (posOf_tokenOf (Fin.castLE _ j)))
  · intro n hn
    refine if_neg fun hle => ?_
    refine hn ⟨posOf n.val, by unfold posOf; omega⟩ (Fin.ext ?_)
    simp only [token, Fin.val_castLE, tokenOf_posOf]
  · intro j
    exact scoreK_eq q qs qm k ks b h x0 x1 x2 x3 x4 h0 h1 h2 h3 h4 hqs hks _ s _

end

end Cert.Tile

end
-- ==== Proof.KernelHost.lean ====
module

public import proofs.«01_k».proof.Proof.KernelValue
public import proofs.«01_k».proof.Proof.Gen.KernelIdeal.Value
public import Idealize.ShloMosaic.Lib.StableHlo.ReadAt
public import Idealize.ShloMosaic.Lib.Tactic.IndexArith

@[expose] public section

set_option maxRecDepth 16384

/-!
# The arrays the kernel's windows are over, read at an index
-/

noncomputable section

namespace Cert.Tile

open Idealize.ShloMosaic Idealize.ShloMosaic.TcCoe Cert.KernelIdeal Cert.KernelIdeal.Gen Cert.Row Cert.Nibble Cert.Spec

variable (m : (ℓ : Loc nD τ sig) → Buf (Elt Ideal) ℓ) (c : Dev nD)

/-- The query bytes, heads first. -/
theorem host_q (b : Fin 3) (a : Fin 40) (s : Fin 512) (e : Fin 64) :
    Gen.V m c main_v0 (ix4 b a s e) = m ((c : Thread nD τ).loc main_arg0) (ix4 b s a e) := by
  unfold Gen.V
  after_reads_at

/-- The key bytes, heads first. -/
theorem host_k (b : Fin 3) (h : Fin 8) (r : Fin 256) (e : Fin 128) :
    Gen.V m c main_v1 (ix4 b h r e) = m ((c : Thread nD τ).loc main_arg3) (ix4 b r h e) := by
  unfold Gen.V
  after_reads_at

/-- The value codes, heads first, the even tokens of every 128 before the odd ones. -/
theorem host_v (b : Fin 3) (h : Fin 8) (j : Fin 512) (e : Fin 128) :
    Gen.V m c main_v4 (ix4 b h j e) = m ((c : Thread nD τ).loc main_arg5) (ix4 b (token j) h e) := by
  unfold Gen.V
  after_reads_at
  exact congrArg (fun u => m ((c : Thread nD τ).loc main_arg5) (ix4 b u h e)) (Fin.ext (by simp only [token, tokenOf]; omega))

/-- The mean queries, four rows a head. -/
theorem host_qm (b : Fin 3) (h : Fin 8) (g : Fin 5) (t : Fin 4) (e : Fin 128) :
    Gen.V m c main_v7 (ix4 b h ⟨4 * g.val + t.val, by omega⟩ e) = m ((c : Thread nD τ).loc main_arg2) (ix4 b t (head h g) e) := by
  unfold Gen.V
  after_reads_at
  exact congrArg (fun u => m ((c : Thread nD τ).loc main_arg2) (ix4 b t u e)) (Fin.ext (by simp only [head]; omega))

/-- The query scales, sixteen a head. -/
theorem host_qs (b : Fin 3) (h : Fin 8) (g : Fin 5) (r : Fin 16) :
    Gen.V m c main_v10 (ix3 ⟨8 * b.val + h.val, by omega⟩ 0 ⟨16 * g.val + r.val, by omega⟩)
      = m ((c : Thread nD τ).loc main_arg1) (ix3 b r (head h g)) := by
  unfold Gen.V
  after_reads_at
  exact congrArg (fun u => m ((c : Thread nD τ).loc main_arg1) (ix3 b r u)) (Fin.ext (by simp only [head]; omega))

/-- The key scales, one a token, in the order of the values. -/
theorem host_ks (b : Fin 3) (h : Fin 8) (j : Fin 512) :
    Gen.V m c main_v16 (ix4 b h 0 j)
      = m ((c : Thread nD τ).loc main_arg4) (ix3 b ⟨(token j).val / 32, by omega⟩ h) := by
  unfold Gen.V
  after_reads_at
  exact congrArg (fun u => m ((c : Thread nD τ).loc main_arg4) (ix3 b u h)) (Fin.ext (by simp only [token, tokenOf]; omega))

/-- The value scales. -/
theorem host_vs (b : Fin 3) (h : Fin 8) (e : Fin 128) :
    Gen.V m c main_v17 (ix4 b h 0 e) = m ((c : Thread nD τ).loc main_arg6) (ix3 b h e) := by
  unfold Gen.V
  after_reads_at

/-- The grid point of batch `b` and key/value head `h`. -/
def point (b : Fin 3) (h : Fin 8) : Fin cfg0.N := ⟨8 * b.val + h.val, by show _ < 24; omega⟩

/-- The block of the query scales at the grid point of batch `b` and key/value head `h`, in units of the block's size. -/
theorem index_0 : ∀ b h, win0_0.index (point b h) = ![8 * b.val + h.val, 0, 0] := by decide +kernel
/-- The block of the query bytes at the grid point of batch `b` and key/value head `h`, in units of the block's size. -/
theorem index_1 : ∀ b h, win0_1.index (point b h) = ![b.val, h.val, 0, 0] := by decide +kernel
/-- The block of the mean queries at the grid point of batch `b` and key/value head `h`, in units of the block's size. -/
theorem index_2 : ∀ b h, win0_2.index (point b h) = ![b.val, h.val, 0, 0] := by decide +kernel
/-- The block of the key bytes at the grid point of batch `b` and key/value head `h`, in units of the block's size. -/
theorem index_3 : ∀ b h, win0_3.index (point b h) = ![b.val, h.val, 0, 0] := by decide +kernel
/-- The block of the key scales at the grid point of batch `b` and key/value head `h`, in units of the block's size. -/
theorem index_4 : ∀ b h, win0_4.index (point b h) = ![b.val, h.val, 0, 0] := by decide +kernel
/-- The block of the value codes at the grid point of batch `b` and key/value head `h`, in units of the block's size. -/
theorem index_5 : ∀ b h, win0_5.index (point b h) = ![b.val, h.val, 0, 0] := by decide +kernel
/-- The block of the value scales at the grid point of batch `b` and key/value head `h`, in units of the block's size. -/
theorem index_6 : ∀ b h, win0_6.index (point b h) = ![b.val, h.val, 0, 0] := by decide +kernel
/-- The block of the result at the grid point of batch `b` and key/value head `h`, in units of the block's size. -/
theorem index_7 : ∀ b h, win0_7.index (point b h) = ![b.val, 0, h.val] := by decide +kernel

/-- Every block is written back. -/
theorem flush_7 : ∀ b h, win0_7.flush (point b h) = true := by decide +kernel

/-- The block of query bytes. -/
theorem blk_q (b : Fin 3) (h : Fin 8) (g : Fin 5) (s : Fin 512) (e : Fin 64) :
    Gen.iblk m c 1 (point b h) (ix4 0 g s e) = m ((c : Thread nD τ).loc main_arg0) (ix4 b s (head h g) e) := by
  refine Eq.trans ?_ (host_q m c b (head h g) s e)
  refine congrArg (Gen.V m c main_v0) (funext fun a => Fin.ext ?_)
  refine (win0_1.rect_emb_val (point b h) (ix4 0 g s e) a).trans ?_
  rw [index_1]
  fin_cases a
  · show b.val * 1 + 0 = b.val
    omega
  · show h.val * 5 + g.val = 5 * h.val + g.val
    omega
  · show 0 * 512 + s.val = s.val
    omega
  · show 0 * 64 + e.val = e.val
    omega

/-- The block of mean queries. -/
theorem blk_qm (b : Fin 3) (h : Fin 8) (g : Fin 5) (t : Fin 4) (e : Fin 128) :
    Gen.iblk m c 2 (point b h) (ix4 0 0 ⟨4 * g.val + t.val, by omega⟩ e) = m ((c : Thread nD τ).loc main_arg2) (ix4 b t (head h g) e) := by
  refine Eq.trans ?_ (host_qm m c b h g t e)
  refine congrArg (Gen.V m c main_v7) (funext fun a => Fin.ext ?_)
  refine (win0_2.rect_emb_val (point b h) (ix4 0 0 ⟨4 * g.val + t.val, by omega⟩ e) a).trans ?_
  rw [index_2]
  fin_cases a
  · show b.val * 1 + 0 = b.val
    omega
  · show h.val * 1 + 0 = h.val
    omega
  · show 0 * 20 + (4 * g.val + t.val) = 4 * g.val + t.val
    omega
  · show 0 * 128 + e.val = e.val
    omega

/-- The block of query scales. -/
theorem blk_qs (b : Fin 3) (h : Fin 8) (g : Fin 5) (r : Fin 16) :
    Gen.iblk m c 0 (point b h) (ix3 0 0 ⟨16 * g.val + r.val, by omega⟩) = m ((c : Thread nD τ).loc main_arg1) (ix3 b r (head h g)) := by
  refine Eq.trans ?_ (host_qs m c b h g r)
  refine congrArg (Gen.V m c main_v10) (funext fun a => Fin.ext ?_)
  refine (win0_0.rect_emb_val (point b h) (ix3 0 0 ⟨16 * g.val + r.val, by omega⟩) a).trans ?_
  rw [index_0]
  fin_cases a
  · show (8 * b.val + h.val) * 1 + 0 = 8 * b.val + h.val
    omega
  · show 0 * 1 + 0 = 0
    omega
  · show 0 * 80 + (16 * g.val + r.val) = 16 * g.val + r.val
    omega

/-- The block of key bytes. -/
theorem blk_k (b : Fin 3) (h : Fin 8) (r : Fin 256) (e : Fin 128) :
    Gen.iblk m c 3 (point b h) (ix4 0 0 r e) = m ((c : Thread nD τ).loc main_arg3) (ix4 b r h e) := by
  refine Eq.trans ?_ (host_k m c b h r e)
  refine congrArg (Gen.V m c main_v1) (funext fun a => Fin.ext ?_)
  refine (win0_3.rect_emb_val (point b h) (ix4 0 0 r e) a).trans ?_
  rw [index_3]
  fin_cases a
  · show b.val * 1 + 0 = b.val
    omega
  · show h.val * 1 + 0 = h.val
    omega
  · show 0 * 256 + r.val = r.val
    omega
  · show 0 * 128 + e.val = e.val
    omega

/-- The block of key scales. -/
theorem blk_ks (b : Fin 3) (h : Fin 8) (j : Fin 512) :
    Gen.iblk m c 4 (point b h) (ix4 0 0 0 j) = m ((c : Thread nD τ).loc main_arg4) (ix3 b ⟨(token j).val / 32, by omega⟩ h) := by
  refine Eq.trans ?_ (host_ks m c b h j)
  refine congrArg (Gen.V m c main_v16) (funext fun a => Fin.ext ?_)
  refine (win0_4.rect_emb_val (point b h) (ix4 0 0 0 j) a).trans ?_
  rw [index_4]
  fin_cases a
  · show b.val * 1 + 0 = b.val
    omega
  · show h.val * 1 + 0 = h.val
    omega
  · show 0 * 1 + 0 = 0
    omega
  · show 0 * 512 + j.val = j.val
    omega

/-- The block of value codes. -/
theorem blk_v (b : Fin 3) (h : Fin 8) (j : Fin 512) (e : Fin 128) :
    Gen.iblk m c 5 (point b h) (ix4 0 0 j e) = m ((c : Thread nD τ).loc main_arg5) (ix4 b (token j) h e) := by
  refine Eq.trans ?_ (host_v m c b h j e)
  refine congrArg (Gen.V m c main_v4) (funext fun a => Fin.ext ?_)
  refine (win0_5.rect_emb_val (point b h) (ix4 0 0 j e) a).trans ?_
  rw [index_5]
  fin_cases a
  · show b.val * 1 + 0 = b.val
    omega
  · show h.val * 1 + 0 = h.val
    omega
  · show 0 * 512 + j.val = j.val
    omega
  · show 0 * 128 + e.val = e.val
    omega

/-- The block of value scales. -/
theorem blk_vs (b : Fin 3) (h : Fin 8) (e : Fin 128) :
    Gen.iblk m c 6 (point b h) (ix4 0 0 0 e) = m ((c : Thread nD τ).loc main_arg6) (ix3 b h e) := by
  refine Eq.trans ?_ (host_vs m c b h e)
  refine congrArg (Gen.V m c main_v17) (funext fun a => Fin.ext ?_)
  refine (win0_6.rect_emb_val (point b h) (ix4 0 0 0 e) a).trans ?_
  rw [index_6]
  fin_cases a
  · show b.val * 1 + 0 = b.val
    omega
  · show h.val * 1 + 0 = h.val
    omega
  · show 0 * 1 + 0 = 0
    omega
  · show 0 * 128 + e.val = e.val
    omega

/-- An array the size of the result, read through the block of batch `b` and key/value head `h`. -/
theorem read_7 (X : Vec Ideal S3x512x5120 .bf16) (b : Fin 3) (s : Fin 512) (h : Fin 8) (u : Fin 640) :
    (win0_7.blk (point b h)).view.read (Elt Ideal) X (ix3 0 s u) = X (ix3 b s ⟨640 * h.val + u.val, by omega⟩) := by
  refine congrArg X (funext fun a => Fin.ext ?_)
  refine (win0_7.rect_emb_val (point b h) (ix3 0 s u) a).trans ?_
  rw [index_7]
  fin_cases a
  · show b.val * 1 + 0 = b.val
    omega
  · show 0 * 512 + s.val = s.val
    omega
  · show h.val * 640 + u.val = 640 * h.val + u.val
    omega

section

variable [Facts] (hqs : ∀ i : S3x16x40.Idx, ∃ r : ℝ, m ((c : Thread nD τ).loc main_arg1) i = (r : EReal))
  (hks : ∀ i : S3x16x8.Idx, ∃ r : ℝ, m ((c : Thread nD τ).loc main_arg4) i = (r : EReal))

include hqs hks in
/-- What the grid point of batch `b` and key/value head `h` writes back. -/
theorem flushed_apply (b : Fin 3) (s : Fin 512) (h : Fin 8) (u : Fin 640) :
    (dats m 0 c).flushed 7 (point b h) (ix3 0 s u)
      = attend (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h ⟨u.val / 128, by omega⟩ s ⟨u.val % 128, by omega⟩ := by
  refine (congrFun (Value.flushed7_A m c (point b h)) (ix3 0 s u)).trans ?_
  refine (out_apply c (grid0.coords (point b h)) _ _ _ _ _ _ _ _ _ _ _ _ _ _ _ _ (iblk m c 0 (point b h)) (iblk m c 1 (point b h))
    (iblk m c 2 (point b h)) (iblk m c 3 (point b h)) (iblk m c 4 (point b h)) (iblk m c 5 (point b h))
    (iblk m c 6 (point b h)) (ix3 0 s u)).trans ?_
  exact blockK_eq (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b h (iblk m c 0 (point b h)) (iblk m c 1 (point b h))
    (iblk m c 2 (point b h)) (iblk m c 3 (point b h)) (iblk m c 4 (point b h)) (iblk m c 5 (point b h))
    (iblk m c 6 (point b h)) (blk_qs m c b h) (blk_q m c b h) (blk_qm m c b h) (blk_k m c b h)
    (blk_ks m c b h) (blk_v m c b h) (blk_vs m c b h) hqs hks s u

include hqs hks in
/-- The kernel's result, entry by entry, when every scale is a finite number. -/
theorem result_apply (b : Fin 3) (s : Fin 512) (h : Fin 8) (u : Fin 640) :
    (dats m 0 c).arrAt 7 cfg0.N (ix3 b s ⟨640 * h.val + u.val, by omega⟩)
      = attend (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h ⟨u.val / 128, by omega⟩ s ⟨u.val % 128, by omega⟩ :=
  (read_7 ((dats m 0 c).arrAt 7 cfg0.N) b s h u).symm.trans
    ((congrFun (Value.blocks7 m c (point b h) (flush_7 b h)) (ix3 0 s u)).trans (flushed_apply m c hqs hks b s h u))

end

end Cert.Tile

end
-- ==== Proof.ReferenceHost.lean ====
module

public import proofs.«01_k».proof.Proof.Spec
public import proofs.«01_k».proof.Proof.TileRead
public import proofs.«01_k».proof.Proof.Gen.ReferenceIdeal.Value
public import Idealize.ShloMosaic.Lib.StableHlo.ReadAt
public import Idealize.ShloMosaic.Lib.Tactic.IndexArith

@[expose] public section

set_option maxRecDepth 16384

/-!
# The reference's unpacked codes and its mask, read at an index
-/

noncomputable section

namespace Cert.Ref

open Idealize.ShloMosaic Idealize.ShloMosaic.TcCoe Cert.ReferenceIdeal Cert.ReferenceIdeal.Gen Cert.Row Cert.Nibble Cert.Spec

variable (m : (ℓ : Loc nD τ sig) → Buf (Elt Ideal) ℓ) (c : Dev nD)

/-- The four low bits of a byte, less 16 from 8 on, are its low half. -/
theorem lo_word : ∀ w : BitVec 8, (Scalar.select (IntOp.cmpi .slt (IntOp.andi (BitVec.setWidth 32 w) 15#32) 8#32)
    (IntOp.andi (BitVec.setWidth 32 w) 15#32) (IntOp.subi (IntOp.andi (BitVec.setWidth 32 w) 15#32) 16#32)).toInt
    = (w.extractLsb' 0 4).toInt := by decide +kernel

/-- The same for the four high bits. -/
theorem hi_word : ∀ w : BitVec 8, (Scalar.select (IntOp.cmpi .slt (IntOp.shrsi .vector (BitVec.setWidth 32 w) 4#32) 8#32)
    (IntOp.shrsi .vector (BitVec.setWidth 32 w) 4#32) (IntOp.subi (IntOp.shrsi .vector (BitVec.setWidth 32 w) 4#32) 16#32)).toInt
    = (w.extractLsb' 4 4).toInt := by decide +kernel

/-- The reference's reading of a low half. -/
theorem ref_lo (w : BitVec 8) :
    FloatOps.sitofp (F := Ideal) .bf16 (Scalar.select (IntOp.cmpi .slt (IntOp.andi (BitVec.setWidth 32 w) 15#32) 8#32)
      (IntOp.andi (BitVec.setWidth 32 w) 15#32) (IntOp.subi (IntOp.andi (BitVec.setWidth 32 w) 15#32) 16#32)) = nib w 0 := by
  unfold nib half
  rw [if_pos rfl, ← lo_word]
  rfl

/-- The reference's reading of a high half. -/
theorem ref_hi (w : BitVec 8) :
    FloatOps.sitofp (F := Ideal) .bf16 (Scalar.select (IntOp.cmpi .slt (IntOp.shrsi .vector (BitVec.setWidth 32 w) 4#32) 8#32)
      (IntOp.shrsi .vector (BitVec.setWidth 32 w) 4#32) (IntOp.subi (IntOp.shrsi .vector (BitVec.setWidth 32 w) 4#32) 16#32))
      = nib w 1 := by
  unfold nib half
  rw [if_neg (by decide), ← hi_word]
  rfl

/-- A head's number, however it is written. -/
theorem head_eq (h : Fin 8) (g : Fin 5) (hh) : (⟨h.val * 5 + g.val, hh⟩ : Fin 40) = head h g :=
  Fin.ext (by simp only [head]; omega)

/-- A choice between the two halves of a byte is the half that the choice names. -/
theorem nib_choice (w : BitVec 8) (n : ℕ) : (if _ : n % 2 < 1 then nib w 0 else nib w 1) = nib w n := by
  split_ifs with h
  · exact nib_congr rfl (by omega)
  · exact nib_congr rfl (by omega)

/-- Two chosen halves, multiplied. -/
theorem choice_mul_choice (w w' : BitVec 8) (n x : ℕ) :
    (if _ : n % 2 < 1 then nib w 0 else nib w 1) * (if _ : x % 2 < 1 then nib w' 0 else nib w' 1) = nib w' x * nib w n := by
  rw [nib_choice, nib_choice, mul_comm]

/-- A chosen half, multiplied by a number. -/
theorem choice_mul (w : BitVec 8) (n : ℕ) (y : EReal) :
    (if _ : n % 2 < 1 then nib w 0 else nib w 1) * y = y * nib w n := by
  rw [nib_choice, mul_comm]

/-- The score, with the key before the query in each product and the halves of the bytes chosen. -/
theorem score_form (q : Vec Ideal ⟨4, ![3, 512, 40, 64]⟩ .i8) (qs : Vec Ideal ⟨3, ![3, 16, 40]⟩ .f32)
    (qm : Vec Ideal ⟨4, ![3, 4, 40, 128]⟩ .bf16) (k : Vec Ideal ⟨4, ![3, 256, 8, 128]⟩ .i8)
    (ks : Vec Ideal ⟨3, ![3, 16, 8]⟩ .f32) (b : Fin 3) (h : Fin 8) (g : Fin 5) (s n : Fin 512) :
    (if n.val ≤ s.val then
        invRoot * ks (ix3 b ⟨n.val / 32, by omega⟩ h)
          * (qs (ix3 b ⟨s.val / 32, by omega⟩ (head h g))
              * (∑ x : Fin 128, (if _ : n.val % 2 < 1 then nib (k (ix4 b ⟨n.val / 2, by omega⟩ h x)) 0
                    else nib (k (ix4 b ⟨n.val / 2, by omega⟩ h x)) 1)
                  * (if _ : x.val % 2 < 1 then nib (q (ix4 b s (head h g) ⟨x.val / 2, by omega⟩)) 0
                    else nib (q (ix4 b s (head h g) ⟨x.val / 2, by omega⟩)) 1))
            + ∑ x : Fin 128, (if _ : n.val % 2 < 1 then nib (k (ix4 b ⟨n.val / 2, by omega⟩ h x)) 0
                    else nib (k (ix4 b ⟨n.val / 2, by omega⟩ h x)) 1 : EReal)
                  * qm (ix4 b ⟨s.val / 128, by omega⟩ (head h g) x))
      else Ideal.ofBits .f32 4286578688#32) = score q qs qm k ks b h g s n := by
  simp only [score, dotQ, dotM, key, Tile.negInf]
  refine if_congr Iff.rfl (congrArg (fun u : EReal => invRoot * ks (ix3 b ⟨n.val / 32, by omega⟩ h) * u) ?_) rfl
  refine congrArg₂ (fun u v : EReal => qs (ix3 b ⟨s.val / 32, by omega⟩ (head h g)) * u + v)
    (Finset.sum_congr rfl fun x _ => choice_mul_choice (k (ix4 b ⟨n.val / 2, by omega⟩ h x))
      (q (ix4 b s (head h g) ⟨x.val / 2, by omega⟩)) n.val x.val)
    (Finset.sum_congr rfl fun x _ => choice_mul (k (ix4 b ⟨n.val / 2, by omega⟩ h x)) n.val
      (qm (ix4 b ⟨s.val / 128, by omega⟩ (head h g) x)))

/-- The low halves of the query bytes. -/
theorem read_q0 (b : Fin 3) (s : Fin 512) (a : Fin 40) (e : Fin 64) (z : Fin 1) :
    StableHlo.upto (List.flatten [hostOps0, hostOps0_1, hostOps0_2, hostOps0_3, hostOps0_4, hostOps0_5, hostOps0_6, hostOps0_7, hostOps0_8, hostOps0_9, hostOps0_10]) (fun b => m (c, b)) 25 (no_index (Proc.tc.devRef main_v17)) (ix5 b s a e z) = nib (m (c, Proc.tc.devRef main_arg0) (ix4 b s a e)) 0 := by
  after_reads_at
  exact ref_lo _

/-- The high halves of the query bytes. -/
theorem read_q1 (b : Fin 3) (s : Fin 512) (a : Fin 40) (e : Fin 64) (z : Fin 1) :
    StableHlo.upto (List.flatten [hostOps0, hostOps0_1, hostOps0_2, hostOps0_3, hostOps0_4, hostOps0_5, hostOps0_6, hostOps0_7, hostOps0_8, hostOps0_9, hostOps0_10]) (fun b => m (c, b)) 25 (no_index (Proc.tc.devRef main_v18)) (ix5 b s a e z) = nib (m (c, Proc.tc.devRef main_arg0) (ix4 b s a e)) 1 := by
  after_reads_at
  exact ref_hi _

/-- The low halves of the key bytes. -/
theorem read_k0 (b : Fin 3) (r : Fin 256) (z : Fin 1) (h : Fin 8) (e : Fin 128) :
    StableHlo.upto (List.flatten [hostOps0, hostOps0_1, hostOps0_2, hostOps0_3, hostOps0_4, hostOps0_5, hostOps0_6, hostOps0_7, hostOps0_8, hostOps0_9, hostOps0_10]) (fun b => m (c, b)) 52 (no_index (Proc.tc.devRef main_v38)) (ix5 b r z h e) = nib (m (c, Proc.tc.devRef main_arg3) (ix4 b r h e)) 0 := by
  after_reads_at
  exact ref_lo _

/-- The high halves of the key bytes. -/
theorem read_k1 (b : Fin 3) (r : Fin 256) (z : Fin 1) (h : Fin 8) (e : Fin 128) :
    StableHlo.upto (List.flatten [hostOps0, hostOps0_1, hostOps0_2, hostOps0_3, hostOps0_4, hostOps0_5, hostOps0_6, hostOps0_7, hostOps0_8, hostOps0_9, hostOps0_10]) (fun b => m (c, b)) 52 (no_index (Proc.tc.devRef main_v39)) (ix5 b r z h e) = nib (m (c, Proc.tc.devRef main_arg3) (ix4 b r h e)) 1 := by
  after_reads_at
  exact ref_hi _

/-- One over the square root of 128, as the reference computes it. -/
theorem root_eq : Ideal.rsqrt (Ideal.ofBits .f32 1124073472#32) = invRoot := by
  have h : Ideal.ofBits .f32 1124073472#32 = ((128 : ℝ) : EReal) := by
    simp [Ideal.ofBits, Ideal.ieee]
    rw [← EReal.coe_mul]
    norm_num
  rw [h]
  unfold invRoot
  rw [Ideal.rsqrt_coe, if_neg (by norm_num), if_neg (by norm_num)]

/-- The causal mask of two row numbers. -/
theorem mask_eq (s n : Fin 512) (x y : EReal) :
    Scalar.select (IntOp.cmpi .sle (BitVec.ofNat 32 n.val) (BitVec.ofNat 32 s.val)) x y = if n.val ≤ s.val then x else y := by
  have h : IntOp.cmpi .sle (BitVec.ofNat 32 n.val) (BitVec.ofNat 32 s.val) = 1#1 ↔ n.val ≤ s.val :=
    WordCmp.cmpi_sle_ofNat_eq_one_iff (w := 32) (a := n.val) (b := s.val) (by omega) (by omega)
  unfold Scalar.select
  exact if_congr h rfl rfl

end Cert.Ref

end
-- ==== Proof.ReferenceScore.lean ====
module

public import proofs.«01_k».proof.Proof.ReferenceHost
public import proofs.«01_k».proof.Proof.Gen.ReferenceIdeal.Value
public import Idealize.ShloMosaic.Lib.StableHlo.ReadAt
public import Idealize.ShloMosaic.Lib.Tactic.IndexArith

@[expose] public section

set_option maxRecDepth 16384

/-!
# The reference's scores, read at an index
-/

noncomputable section

namespace Cert.Ref

open Idealize.ShloMosaic Idealize.ShloMosaic.TcCoe Cert.ReferenceIdeal Cert.ReferenceIdeal.Gen Cert.Row Cert.Nibble Cert.Spec

variable (m : (ℓ : Loc nD τ sig) → Buf (Elt Ideal) ℓ) (c : Dev nD)

/-- The masked scores. -/
theorem host_score (b : Fin 3) (h : Fin 8) (g : Fin 5) (s n : Fin 512) :
    Gen.V m c main_v73 (ix5 b h g s n) = score (m ((c : Thread nD τ).loc main_arg0)) (m ((c : Thread nD τ).loc main_arg1))
      (m ((c : Thread nD τ).loc main_arg2)) (m ((c : Thread nD τ).loc main_arg3)) (m ((c : Thread nD τ).loc main_arg4)) b h g s n := by
  unfold Gen.V
  after_reads_at
  simp only [root_eq, mask_eq, head_eq, id, read_q0, read_q1, read_k0, read_k1]
  exact score_form (m ((c : Thread nD τ).loc main_arg0)) (m ((c : Thread nD τ).loc main_arg1))
      (m ((c : Thread nD τ).loc main_arg2)) (m ((c : Thread nD τ).loc main_arg3)) (m ((c : Thread nD τ).loc main_arg4)) b h g s n

end Cert.Ref

end
-- ==== Proof.ReferenceBody.lean ====
module

public import proofs.«01_k».proof.Proof.ReferenceScore
public import Idealize.ShloMosaic.Lib.Pipeline.ValueKit.Basic

@[expose] public section

set_option maxRecDepth 16384

/-!
# The reference's last product, read at an index
-/

noncomputable section

namespace Cert.Ref

open Idealize.ShloMosaic Idealize.ShloMosaic.TcCoe Cert.ReferenceIdeal Cert.ReferenceIdeal.Gen Cert.Row Cert.Nibble Cert.Spec

/-- The weighted sum of the values, read at an index. -/
theorem pay_apply (p : FVec Ideal S3x8x5x512x512 .f32) (v : FVec Ideal S3x512x8x128 .fp8e4m3) (vs : FVec Ideal S3x8x128 .f32)
    (b : Fin 3) (h : Fin 8) (g : Fin 5) (s : Fin 512) (e : Fin 128) :
    Gen.k0_pay1 (F := Ideal) p v vs (ix3 b s (⟨640 * h.val + 128 * g.val + e.val, by omega⟩ : Fin 5120))
      = (∑ n : Fin 512, min ((448 : ℝ) : EReal) (max 0 (p (ix5 b h g s n) * 256)) * v (ix4 b n h e))
          * (vs (ix3 b h e) * Ideal.ofBits .f32 0x3B800000#32) := by
  unfold Gen.k0_pay1
  pointwise
  simp only [Cert.Tile.c256, Cert.Tile.c448]
  exact (mul_assoc _ _ _).trans (congrArg (fun u : EReal => _ * u) (mul_comm _ _))

/-- The body's result from the contents of its three input windows. -/
theorem out_eq (p : FVec Ideal S3x8x5x512x512 .f32) (v : FVec Ideal S3x512x8x128 .fp8e4m3) (vs : FVec Ideal S3x8x128 .f32) :
    Gen.out0_3 (F := Ideal) p v vs = Gen.k0_pay1 (F := Ideal) p v vs := by
  unfold Gen.out0_3
  rw [View.canon_cons_unit_lit _ _ _ (by decide), View.ld_unit_lit _ _ (by decide), View.ld_unit_lit _ _ (by decide),
    View.ld_unit_lit _ _ (by decide)]

end Cert.Ref

end
-- ==== Proof.ReferenceProb.lean ====
module

public import proofs.«01_k».proof.Proof.ReferenceScore

@[expose] public section

set_option maxRecDepth 16384

/-!
# The reference's probabilities, read at an index
-/

noncomputable section

namespace Cert.Ref

open Idealize.ShloMosaic Idealize.ShloMosaic.TcCoe Cert.ReferenceIdeal Cert.ReferenceIdeal.Gen Cert.Row Cert.Nibble Cert.Spec

/-- The row sums. -/
theorem sum_apply (X : Vec Ideal S3x8x5x512x512 .f32) (b : Fin 3) (h : Fin 8) (g : Fin 5) (s : Fin 512) :
    Host.reduceAdd X (constant (F := Ideal) S_ .f32 0#32) reducesTo_S3x8x5x512x512_S3x8x5x512_d4 h_S_ (ix4 b h g s)
      = ∑ k : Fin 512, X (ix5 b h g s k) := by
  pointwise

/-- An index of the row maxima with the last coordinate put back. -/
theorem lift_last (h' : S3x8x5x512x512.Reduces [4] S3x8x5x512) (b : Fin 3) (h : Fin 8) (g : Fin 5) (s : Fin 512)
    (k : Fin (S3x8x5x512x512.size 4)) :
    h'.lift (ix4 b h g s) k = ix5 b h g s (⟨k.val, k.isLt⟩ : Fin 512) := by
  funext c; apply Fin.ext
  fin_cases c <;> rfl

/-- The row maxima. -/
theorem top_apply (X : Vec Ideal S3x8x5x512x512 .f32) (b : Fin 3) (h : Fin 8) (g : Fin 5) (s : Fin 512) :
    maximumf (broadcastInDim S3x8x5x512 ![] bcast_S_S3x8x5x512 (constant (F := Ideal) S_ .f32 0xFF800000#32))
      (Host.reduce FloatOps.maximumf X (constant S_ .f32 0xFF800000#32) reducesTo_S3x8x5x512x512_S3x8x5x512_d4 h_S_) (ix4 b h g s)
      = Finset.univ.fold max ⊥ (fun k : Fin 512 => X (ix5 b h g s k)) := by
  have h' : S3x8x5x512x512.Reduces [4] S3x8x5x512 := by decide
  have hf : (X ∘ h'.lift (ix4 b h g s)) = fun k : Fin 512 => X (ix5 b h g s k) :=
    funext fun k => congrArg X (lift_last h' b h g s k)
  have e := Host.reduce_eq_fold_single (FloatOps.maximumf (F := Ideal) (φ := .f32)) X (constant (F := Ideal) S_ .f32 0xFF800000#32)
    reducesTo_S3x8x5x512x512_S3x8x5x512_d4 h' h_S_ (ix4 b h g s)
  have hc : (constant (F := Ideal) S_ .f32 0xFF800000#32 : Vec Ideal S_ .f32) = fun _ => (⊥ : EReal) := funext fun _ => Cert.Tile.negInf
  rw [maximumf_apply]
  refine (congrArg₂ (fun u w : EReal => max u w) (Cert.Tile.negInf : _ = (⊥ : EReal)) e).trans ?_
  refine (max_eq_right bot_le).trans ?_
  rw [hc]
  exact congrArg (fun f : Fin 512 → EReal => Finset.fold max (⊥ : EReal) f Finset.univ) hf

/-- One entry per row, repeated along the row. -/
def spread (M : FVec Ideal S3x8x5x512 .f32) : FVec Ideal S3x8x5x512x512 .f32 :=
  broadcastInDim S3x8x5x512x512 ![0, 1, 2, 3, 4] bcast_S3x8x5x512x1_S3x8x5x512x512_0_1_2_3_4
    (broadcastInDim S3x8x5x512x1 ![0, 1, 2, 3] bcast_S3x8x5x512_S3x8x5x512x1_0_1_2_3 M)

/-- An entry of the repeated array is its row's entry. -/
theorem spread_apply (M : FVec Ideal S3x8x5x512 .f32) (b : Fin 3) (h : Fin 8) (g : Fin 5) (s n : Fin 512) :
    spread M (ix5 b h g s n) = M (ix4 b h g s) := by
  unfold spread
  pointwise

/-- The row maxima, as an array. -/
def tops (X : FVec Ideal S3x8x5x512x512 .f32) : FVec Ideal S3x8x5x512 .f32 :=
  maximumf (broadcastInDim S3x8x5x512 ![] bcast_S_S3x8x5x512 (constant (F := Ideal) S_ .f32 0xFF800000#32))
    (Host.reduce FloatOps.maximumf X (constant S_ .f32 0xFF800000#32) reducesTo_S3x8x5x512x512_S3x8x5x512_d4 h_S_)

/-- The exponentials of the scores less their row's maximum, as an array. -/
def weights (X : FVec Ideal S3x8x5x512x512 .f32) : FVec Ideal S3x8x5x512x512 .f32 := Host.exp (subf X (spread (tops X)))

/-- An entry of the exponentials is the row's weight of that key. -/
theorem weights_apply (X : FVec Ideal S3x8x5x512x512 .f32) (b : Fin 3) (h : Fin 8) (g : Fin 5) (s n : Fin 512) :
    weights X (ix5 b h g s n) = wR (fun k : Fin 512 => X (ix5 b h g s k)) n := by
  have e := (spread_apply (tops X) b h g s n).trans (top_apply X b h g s)
  exact congrArg (fun u : EReal => Ideal.exp (X (ix5 b h g s n) - u)) e

/-- The softmax along the last axis, as an array. -/
def softmax (X : FVec Ideal S3x8x5x512x512 .f32) : FVec Ideal S3x8x5x512x512 .f32 :=
  Host.divf (weights X)
    (spread (Host.reduceAdd (weights X) (constant (F := Ideal) S_ .f32 0#32) reducesTo_S3x8x5x512x512_S3x8x5x512_d4 h_S_))

/-- An entry of the softmax is the row's weight of that key over the sum of the row's weights. -/
theorem softmax_apply (X : FVec Ideal S3x8x5x512x512 .f32) (b : Fin 3) (h : Fin 8) (g : Fin 5) (s n : Fin 512) :
    softmax X (ix5 b h g s n)
      = Ideal.div (wR (fun k : Fin 512 => X (ix5 b h g s k)) n) (∑ k, wR (fun k : Fin 512 => X (ix5 b h g s k)) k) := by
  have e := (spread_apply _ b h g s n).trans (sum_apply (weights X) b h g s)
  exact congrArg₂ (fun u v : EReal => Ideal.div u v) (weights_apply X b h g s n)
    (e.trans (Finset.sum_congr rfl fun k _ => weights_apply X b h g s k))

/-- The last host operations are a softmax along the last axis. -/
theorem read_softmax (W : Valuation τ sig (Elt Ideal)) :
    StableHlo.after hostOps0_10 W (Proc.tc.devRef main_v84) = softmax (W (Proc.tc.devRef main_v73)) := by
  after_reads_simp
  rfl

/-- They leave the scores. -/
theorem read_scores (W : Valuation τ sig (Elt Ideal)) :
    StableHlo.after hostOps0_10 W (Proc.tc.devRef main_v73) = W (Proc.tc.devRef main_v73) := by
  after_reads_simp

variable (m : (ℓ : Loc nD τ sig) → Buf (Elt Ideal) ℓ) (c : Dev nD)

/-- The probabilities the launch stages are the softmax of the scores. -/
theorem host_prob (b : Fin 3) (h : Fin 8) (g : Fin 5) (s n : Fin 512) :
    Gen.V m c main_v84 (ix5 b h g s n)
      = Ideal.div (wR (score (m ((c : Thread nD τ).loc main_arg0)) (m ((c : Thread nD τ).loc main_arg1))
          (m ((c : Thread nD τ).loc main_arg2)) (m ((c : Thread nD τ).loc main_arg3)) (m ((c : Thread nD τ).loc main_arg4)) b h g s) n)
        (∑ k, wR (score (m ((c : Thread nD τ).loc main_arg0)) (m ((c : Thread nD τ).loc main_arg1))
          (m ((c : Thread nD τ).loc main_arg2)) (m ((c : Thread nD τ).loc main_arg3)) (m ((c : Thread nD τ).loc main_arg4)) b h g s) k) := by
  have e : Gen.V m c main_v84 = softmax (Gen.V m c main_v73) := by
    unfold Gen.V
    simp only [List.flatten_cons, List.flatten_nil, List.append_nil, StableHlo.after_append]
    exact (read_softmax _).trans (congrArg softmax (read_scores _).symm)
  rw [e, softmax_apply]
  have hx : (fun k : Fin 512 => Gen.V m c main_v73 (ix5 b h g s k)) = score (m ((c : Thread nD τ).loc main_arg0)) (m ((c : Thread nD τ).loc main_arg1))
      (m ((c : Thread nD τ).loc main_arg2)) (m ((c : Thread nD τ).loc main_arg3)) (m ((c : Thread nD τ).loc main_arg4)) b h g s :=
    funext fun k => host_score m c b h g s k
  exact congrArg (fun x : Fin 512 → EReal => Ideal.div (wR x n) (∑ k, wR x k)) hx

end Cert.Ref

end
-- ==== Proof.ReferenceValue.lean ====
module

public import proofs.«01_k».proof.Proof.ReferenceBody
public import proofs.«01_k».proof.Proof.ReferenceProb

@[expose] public section

set_option maxRecDepth 16384

/-!
# The reference's result, entry by entry
-/

noncomputable section

namespace Cert.Ref

open Idealize.ShloMosaic Idealize.ShloMosaic.TcCoe Cert.ReferenceIdeal Cert.ReferenceIdeal.Gen Cert.Row Cert.Nibble Cert.Spec

variable (m : (ℓ : Loc nD τ sig) → Buf (Elt Ideal) ℓ) (c : Dev nD)

/-- The one block of the probabilities starts at zero on every axis. -/
theorem index_0 : win0_0.index t0_0 = ![0, 0, 0, 0, 0] := by decide +kernel
/-- The one block of the value codes starts at zero on every axis. -/
theorem index_1 : win0_1.index t0_0 = ![0, 0, 0, 0] := by decide +kernel
/-- The one block of the value scales starts at zero on every axis. -/
theorem index_2 : win0_2.index t0_0 = ![0, 0, 0] := by decide +kernel
/-- The one block of the result starts at zero on every axis. -/
theorem index_3 : win0_3.index t0_0 = ![0, 0, 0] := by decide +kernel

/-- The result is written back. -/
theorem flush_3 : win0_3.flush t0_0 = true := by decide +kernel

/-- The block of probabilities is the whole array. -/
theorem blk_p (b : Fin 3) (h : Fin 8) (g : Fin 5) (s n : Fin 512) :
    Gen.iblk m c 0 t0_0 (ix5 b h g s n) = Gen.V m c main_v84 (ix5 b h g s n) := by
  refine congrArg (Gen.V m c main_v84) (funext fun a => Fin.ext ?_)
  refine (win0_0.rect_emb_val t0_0 (ix5 b h g s n) a).trans ?_
  rw [index_0]
  fin_cases a
  · show 0 * 3 + b.val = b.val
    omega
  · show 0 * 8 + h.val = h.val
    omega
  · show 0 * 5 + g.val = g.val
    omega
  · show 0 * 512 + s.val = s.val
    omega
  · show 0 * 512 + n.val = n.val
    omega

/-- The block of value codes is the whole array. -/
theorem blk_v (b : Fin 3) (n : Fin 512) (h : Fin 8) (e : Fin 128) :
    Gen.iblk m c 1 t0_0 (ix4 b n h e) = m ((c : Thread nD τ).loc main_arg5) (ix4 b n h e) := by
  refine Eq.trans ?_ (congrFun (V_main_arg5 m c) (ix4 b n h e))
  refine congrArg (Gen.V m c main_arg5) (funext fun a => Fin.ext ?_)
  refine (win0_1.rect_emb_val t0_0 (ix4 b n h e) a).trans ?_
  rw [index_1]
  fin_cases a
  · show 0 * 3 + b.val = b.val
    omega
  · show 0 * 512 + n.val = n.val
    omega
  · show 0 * 8 + h.val = h.val
    omega
  · show 0 * 128 + e.val = e.val
    omega

/-- The block of value scales is the whole array. -/
theorem blk_vs (b : Fin 3) (h : Fin 8) (e : Fin 128) :
    Gen.iblk m c 2 t0_0 (ix3 b h e) = m ((c : Thread nD τ).loc main_arg6) (ix3 b h e) := by
  refine Eq.trans ?_ (congrFun (V_main_arg6 m c) (ix3 b h e))
  refine congrArg (Gen.V m c main_arg6) (funext fun a => Fin.ext ?_)
  refine (win0_2.rect_emb_val t0_0 (ix3 b h e) a).trans ?_
  rw [index_2]
  fin_cases a
  · show 0 * 3 + b.val = b.val
    omega
  · show 0 * 8 + h.val = h.val
    omega
  · show 0 * 128 + e.val = e.val
    omega

/-- An array the size of the result, read through its one block. -/
theorem read_3 (X : Vec Ideal S3x512x5120 .bf16) (b : Fin 3) (s : Fin 512) (u : Fin 5120) :
    (win0_3.blk t0_0).view.read (Elt Ideal) X (ix3 b s u) = X (ix3 b s u) := by
  refine congrArg X (funext fun a => Fin.ext ?_)
  refine (win0_3.rect_emb_val t0_0 (ix3 b s u) a).trans ?_
  rw [index_3]
  fin_cases a
  · show 0 * 3 + b.val = b.val
    omega
  · show 0 * 512 + s.val = s.val
    omega
  · show 0 * 5120 + u.val = u.val
    omega

/-- The reference's result, entry by entry. -/
theorem result_apply (b : Fin 3) (s : Fin 512) (h : Fin 8) (g : Fin 5) (e : Fin 128) :
    (dats m 0 c).arrAt 3 cfg0.N (ix3 b s ⟨640 * h.val + 128 * g.val + e.val, by omega⟩)
      = attend (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b h g s e := by
  refine (read_3 ((dats m 0 c).arrAt 3 cfg0.N) b s _).symm.trans
    ((congrFun (Value.blocks3 m c t0_0 flush_3) (ix3 b s _)).trans ((congrFun (Value.flushed3 m c t0_0) (ix3 b s _)).trans ?_))
  refine (congrFun (out_eq (iblk m c 0 t0_0) (iblk m c 1 t0_0) (iblk m c 2 t0_0)) (ix3 b s _)).trans ?_
  refine (pay_apply (iblk m c 0 t0_0) (iblk m c 1 t0_0) (iblk m c 2 t0_0) b h g s e).trans ?_
  refine congrArg₂ (fun u w : EReal => u * (w * Ideal.ofBits .f32 0x3B800000#32)) (Finset.sum_congr rfl fun n _ => ?_) (blk_vs m c b h e)
  exact congrArg₂ (fun u w : EReal => min ((448 : ℝ) : EReal) (max 0 (u * 256)) * w)
    ((blk_p m c b h g s n).trans (host_prob m c b h g s n)) (blk_v m c b n h e)

end Cert.Ref

end
-- ==== Proof.Agreement.lean ====
module

public import proofs.«01_k».proof.Proof.KernelHost
public import proofs.«01_k».proof.Proof.ReferenceValue

@[expose] public section

set_option maxRecDepth 16384

/-!
# The two results are one array

Entry by entry the kernel's result and the reference's are the same function of the seven arguments (`Cert.Spec.attend`).
-/

noncomputable section

namespace Cert.Agreement

open Idealize.ShloMosaic Idealize.ShloMosaic.TcCoe Cert.Spec

/-- An entry of the attention depends on nothing but the arguments' contents. -/
theorem attend_congr {q q' : Vec Ideal ⟨4, ![3, 512, 40, 64]⟩ .i8} {qs qs' : Vec Ideal ⟨3, ![3, 16, 40]⟩ .f32}
    {qm qm' : Vec Ideal ⟨4, ![3, 4, 40, 128]⟩ .bf16} {k k' : Vec Ideal ⟨4, ![3, 256, 8, 128]⟩ .i8}
    {ks ks' : Vec Ideal ⟨3, ![3, 16, 8]⟩ .f32} {v v' : Vec Ideal ⟨4, ![3, 512, 8, 128]⟩ .fp8e4m3}
    {vs vs' : Vec Ideal ⟨3, ![3, 8, 128]⟩ .f32} (hq : q' = q) (hqs : qs' = qs) (hqm : qm' = qm) (hk : k' = k) (hks : ks' = ks)
    (hv : v' = v) (hvs : vs' = vs) (b : Fin 3) (h : Fin 8) (g : Fin 5) (s : Fin 512) (e : Fin 128) :
    attend q' qs' qm' k' ks' v' vs' b h g s e = attend q qs qm k ks v vs b h g s e := by
  subst hq hqs hqm hk hks hv hvs
  rfl

/-- Two arrays the size of the result that agree at every batch, row, key/value head, query head of the group and channel
    are equal. -/
theorem ext_result (X Y : Vec Ideal ⟨3, ![3, 512, 5120]⟩ .bf16)
    (hXY : ∀ (b : Fin 3) (s : Fin 512) (h : Fin 8) (g : Fin 5) (e : Fin 128),
      X (ix3 b s ⟨640 * h.val + 128 * g.val + e.val, by omega⟩) = Y (ix3 b s ⟨640 * h.val + 128 * g.val + e.val, by omega⟩)) :
    X = Y := by
  funext i
  obtain ⟨b, s, u, rfl⟩ : ∃ (b : Fin 3) (s : Fin 512) (u : Fin 5120), i = ix3 b s u :=
    ⟨i 0, i 1, i 2, funext fun a => by fin_cases a <;> rfl⟩
  have hu : u = ⟨640 * (u.val / 640) + 128 * (u.val % 640 / 128) + u.val % 128, by omega⟩ :=
    Fin.ext (by show u.val = 640 * (u.val / 640) + 128 * (u.val % 640 / 128) + u.val % 128; omega)
  rw [hu]
  exact hXY b s ⟨u.val / 640, by omega⟩ ⟨u.val % 640 / 128, by omega⟩ ⟨u.val % 128, by omega⟩

variable (m : (ℓ : Loc Cert.KernelIdeal.nD Cert.KernelIdeal.τ Cert.KernelIdeal.sig) → Buf (Elt Ideal) ℓ)
  (c : Dev Cert.KernelIdeal.nD)

/-- The kernel's result, by query head of the group and channel. -/
theorem kernel_apply [Cert.KernelIdeal.Facts]
    (hqs : ∀ i : Cert.KernelIdeal.S3x16x40.Idx, ∃ r : ℝ, m ((c : Thread Cert.KernelIdeal.nD Cert.KernelIdeal.τ).loc Cert.KernelIdeal.main_arg1) i = (r : EReal))
    (hks : ∀ i : Cert.KernelIdeal.S3x16x8.Idx, ∃ r : ℝ, m ((c : Thread Cert.KernelIdeal.nD Cert.KernelIdeal.τ).loc Cert.KernelIdeal.main_arg4) i = (r : EReal))
    (b : Fin 3) (s : Fin 512) (h : Fin 8) (g : Fin 5) (e : Fin 128) :
    (Cert.KernelIdeal.Gen.dats m 0 c).arrAt 7 Cert.KernelIdeal.cfg0.N (ix3 b s ⟨640 * h.val + 128 * g.val + e.val, by omega⟩)
      = attend (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6)) b h g s e := by
  have hc : (⟨640 * h.val + 128 * g.val + e.val, by omega⟩ : Fin 5120) = ⟨640 * h.val + (128 * g.val + e.val), by omega⟩ :=
    Fin.ext (by show 640 * h.val + 128 * g.val + e.val = 640 * h.val + (128 * g.val + e.val); omega)
  have hg : (⟨(128 * g.val + e.val) / 128, by omega⟩ : Fin 5) = g := Fin.ext (by show (128 * g.val + e.val) / 128 = g.val; omega)
  have he : (⟨(128 * g.val + e.val) % 128, by omega⟩ : Fin 128) = e := Fin.ext (by show (128 * g.val + e.val) % 128 = e.val; omega)
  rw [hc]
  refine (Cert.Tile.result_apply m c hqs hks b s h ⟨128 * g.val + e.val, by omega⟩).trans ?_
  rw [hg, he]

end Cert.Agreement

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_finite_scales
public import proofs.«01_k».proof.Proof.Precondition
public import proofs.«01_k».proof.Proof.Agreement

@[expose] public section

noncomputable section

namespace Cert.Proof

open Idealize.ShloMosaic Idealize.SL.Sem

/-- The printed kernel and the idealized one differ in one literal, which stands for 1 / (√128 · ln 2). -/
theorem preserves : Cert.preserves_Kernel_KernelIdeal :=
  IdealRules.named_const.statement Cert.KernelIdeal.κ "score_scale_log2e" .f32 0x3E0293EE#32
    (((Real.sqrt 128)⁻¹ * (Real.log 2)⁻¹ : ℝ) : EReal) rfl

/-- Over the extended reals the two programs end with equal results. -/
theorem algebraic : Cert.algebraic_KernelIdeal_ReferenceIdeal_pre_finite_scales (hKernelIdeal := Cert.KernelIdeal.Gen.facts)
    (hReferenceIdeal := Cert.ReferenceIdeal.Gen.facts) (hPre_finite_scales := Cert.Pre_finite_scales.Gen.facts) := by
  intro m g m' g' hpre hargs
  refine ⟨fun c => (Cert.KernelIdeal.Gen.dats m 0 c).arrAt 7 Cert.KernelIdeal.cfg0.N, Cert.KernelIdeal.Value.run_blocks m g, ?_⟩
  refine (θ_run Cert.ReferenceIdeal.defs _ _).mono (fun r h c => ?_) (Cert.ReferenceIdeal.Value.run_blocks m' g')
  refine ⟨(h c).1.trans (Cert.Agreement.ext_result _ _ fun b s kv gr e => ?_), (h c).2⟩
  obtain ⟨hqs, hks⟩ := Cert.Finite.scales_real _ _ _ _ _ _ _ (hpre c)
  obtain ⟨h0, h1, h2, h3, h4, h5, h6⟩ := hargs c
  refine (Cert.Ref.result_apply m' c b s kv gr e).trans (Eq.trans ?_ (Cert.Agreement.kernel_apply m c hqs hks b s kv gr e).symm)
  exact Cert.Agreement.attend_congr h0 h1 h2 h3 h4 h5 h6 b kv gr s e

/-- All the claims, in the order `Cert.Claim` lists them. -/
theorem claim : Cert.Claim :=
  ⟨Cert.Kernel.Gen.facts, Cert.KernelIdeal.Gen.facts, Cert.ReferenceIdeal.Gen.facts, Cert.Pre_finite_scales.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, preserves, algebraic⟩

end Cert.Proof

end
